-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4096 : Shape := ⟨3, ![8, 1, 4096]⟩
abbrev S4096x5504x3 : Shape := ⟨3, ![4096, 5504, 3]⟩
abbrev S22016 : Shape := ⟨1, ![22016]⟩
abbrev S3x4096x5504 : Shape := ⟨3, ![3, 4096, 5504]⟩
abbrev S8x4096 : Shape := ⟨2, ![8, 4096]⟩
abbrev S1x22016 : Shape := ⟨2, ![1, 22016]⟩
abbrev S8x22016 : Shape := ⟨2, ![8, 22016]⟩
abbrev S8x256 : Shape := ⟨2, ![8, 256]⟩
abbrev S3x256x5504 : Shape := ⟨3, ![3, 256, 5504]⟩
abbrev S1x256x128 : Shape := ⟨3, ![1, 256, 128]⟩
abbrev S256x128 : Shape := ⟨2, ![256, 128]⟩
abbrev S64x128 : Shape := ⟨2, ![64, 128]⟩
abbrev S256x512 : Shape := ⟨2, ![256, 512]⟩
abbrev S8x512 : Shape := ⟨2, ![8, 512]⟩
abbrev S8x128 : Shape := ⟨2, ![8, 128]⟩
abbrev S8x128x1 : Shape := ⟨3, ![8, 128, 1]⟩
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x1x4096, .bf16⟩
  | .hbm, ⟨1, _⟩ => ⟨S4096x5504x3, .i8⟩
  | .hbm, ⟨2, _⟩ => ⟨S22016, .f32⟩
  | .hbm, ⟨3, _⟩ => ⟨S3x4096x5504, .i8⟩
  | .hbm, ⟨4, _⟩ => ⟨S8x4096, .bf16⟩
  | .hbm, ⟨5, _⟩ => ⟨S1x22016, .f32⟩
  | .hbm, ⟨6, _⟩ => ⟨S8x22016, .bf16⟩
  | .local _ .vmem, ⟨0, _⟩ => ⟨S8x256, .bf16⟩
  | .local _ .vmem, ⟨1, _⟩ => ⟨S8x256, .bf16⟩
  | .local _ .vmem, ⟨2, _⟩ => ⟨S3x256x5504, .i8⟩
  | .local _ .vmem, ⟨3, _⟩ => ⟨S3x256x5504, .i8⟩
  | .local _ .vmem, ⟨4, _⟩ => ⟨S1x22016, .f32⟩
  | .local _ .vmem, ⟨5, _⟩ => ⟨S8x22016, .bf16⟩
  | .local _ .vmem, ⟨6, _⟩ => ⟨S8x22016, .f32⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v3015 : BitVec 1 := Scalar.cmpi .eq arg0 c15_i32
  let v3016 : BitVec 32 := Scalar.extui v3015
  let c0_i32_1466 : BitVec 32 := 0#32
  let v3017 : BitVec 1 := Scalar.cmpi .ne v3016 c0_i32_1466
  v3017

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x5504 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x22016 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x22016 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1x4096 : Shape := ⟨3, ![8, 1, 4096]⟩
abbrev S4096x5504x3 : Shape := ⟨3, ![4096, 5504, 3]⟩
abbrev S22016 : Shape := ⟨1, ![22016]⟩
abbrev S8x4096 : Shape := ⟨2, ![8, 4096]⟩
abbrev S4096x5504x1 : Shape := ⟨3, ![4096, 5504, 1]⟩
abbrev S4096x5504 : Shape := ⟨2, ![4096, 5504]⟩
abbrev S_ : Shape := ⟨0, ![]⟩
abbrev S8x5504 : Shape := ⟨2, ![8, 5504]⟩
abbrev S8x5504x1 : Shape := ⟨3, ![8, 5504, 1]⟩
abbrev S8x5504x4 : Shape := ⟨3, ![8, 5504, 4]⟩
abbrev S8x1x22016 : Shape := ⟨3, ![8, 1, 22016]⟩
abbrev S1x1x22016 : Shape := ⟨3, ![1, 1, 22016]⟩
abbrev S8x22016 : Shape := ⟨2, ![8, 22016]⟩

abbrev nBuf : Space → Nat
  | .hbm => 226
  | .vmem => 0
  | .smem => 0
  | _ => 0

abbrev hbmTy0_0 (i : Nat) : BufTy := match i % 128 with
  | 0 => ⟨S8x1x4096, .bf16⟩
  | 1 => ⟨S4096x5504x3, .i8⟩
  | 2 => ⟨S22016, .f32⟩
  | 3 => ⟨S8x4096, .bf16⟩
  | 4 => ⟨S4096x5504x1, .i8⟩
  | 5 => ⟨S4096x5504, .i8⟩
  | 6 => ⟨S4096x5504, .i32⟩
  | 7 => ⟨S4096x5504x1, .i8⟩
  | 8 => ⟨S4096x5504, .i8⟩
  | 9 => ⟨S4096x5504, .i32⟩
  | 10 => ⟨S4096x5504x1, .i8⟩
  | 11 => ⟨S4096x5504, .i8⟩
  | 12 => ⟨S4096x5504, .i32⟩
  | 13 => ⟨S_, .i32⟩
  | 14 => ⟨S4096x5504, .i32⟩
  | 15 => ⟨S4096x5504, .i32⟩
  | 16 => ⟨S_, .i32⟩
  | 17 => ⟨S4096x5504, .i32⟩
  | 18 => ⟨S4096x5504, .i32⟩
  | 19 => ⟨S_, .i32⟩
  | 20 => ⟨S4096x5504, .i32⟩
  | 21 => ⟨S4096x5504, .i32⟩
  | 22 => ⟨S_, .i32⟩
  | 23 => ⟨S4096x5504, .i32⟩
  | 24 => ⟨S4096x5504, .i32⟩
  | 25 => ⟨S4096x5504, .i32⟩
  | 26 => ⟨S_, .i32⟩
  | 27 => ⟨S4096x5504, .i32⟩
  | 28 => ⟨S4096x5504, .i32⟩
  | 29 => ⟨S_, .i32⟩
  | 30 => ⟨S4096x5504, .i32⟩
  | 31 => ⟨S4096x5504, .i32⟩
  | 32 => ⟨S_, .i32⟩
  | 33 => ⟨S4096x5504, .i32⟩
  | 34 => ⟨S4096x5504, .i32⟩
  | 35 => ⟨S4096x5504, .i32⟩
  | 36 => ⟨S_, .i32⟩
  | 37 => ⟨S4096x5504, .i32⟩
  | 38 => ⟨S4096x5504, .i32⟩
  | 39 => ⟨S_, .i32⟩
  | 40 => ⟨S4096x5504, .i32⟩
  | 41 => ⟨S4096x5504, .i32⟩
  | 42 => ⟨S_, .i32⟩
  | 43 => ⟨S4096x5504, .i32⟩
  | 44 => ⟨S4096x5504, .i32⟩
  | 45 => ⟨S_, .i32⟩
  | 46 => ⟨S4096x5504, .i32⟩
  | 47 => ⟨S4096x5504, .i32⟩
  | 48 => ⟨S_, .i32⟩
  | 49 => ⟨S4096x5504, .i32⟩
  | 50 => ⟨S4096x5504, .i32⟩
  | 51 => ⟨S_, .i32⟩
  | 52 => ⟨S4096x5504, .i32⟩
  | 53 => ⟨S4096x5504, .i32⟩
  | 54 => ⟨S_, .i32⟩
  | 55 => ⟨S4096x5504, .i32⟩
  | 56 => ⟨S4096x5504, .i1⟩
  | 57 => ⟨S_, .i32⟩
  | 58 => ⟨S4096x5504, .i32⟩
  | 59 => ⟨S4096x5504, .i1⟩
  | 60 => ⟨S_, .i32⟩
  | 61 => ⟨S4096x5504, .i32⟩
  | 62 => ⟨S4096x5504, .i1⟩
  | 63 => ⟨S_, .i32⟩
  | 64 => ⟨S_, .i32⟩
  | 65 => ⟨S4096x5504, .i32⟩
  | 66 => ⟨S4096x5504, .i32⟩
  | 67 => ⟨S4096x5504, .i32⟩
  | 68 => ⟨S_, .i32⟩
  | 69 => ⟨S4096x5504, .i32⟩
  | 70 => ⟨S4096x5504, .i32⟩
  | 71 => ⟨S_, .i32⟩
  | 72 => ⟨S4096x5504, .i32⟩
  | 73 => ⟨S4096x5504, .i32⟩
  | 74 => ⟨S_, .i32⟩
  | 75 => ⟨S4096x5504, .i32⟩
  | 76 => ⟨S4096x5504, .i1⟩
  | 77 => ⟨S4096x5504, .i32⟩
  | 78 => ⟨S4096x5504, .i32⟩
  | 79 => ⟨S4096x5504, .i32⟩
  | 80 => ⟨S4096x5504, .i16⟩
  | 81 => ⟨S4096x5504, .bf16⟩
  | 82 => ⟨S8x5504, .f32⟩
  | 83 => ⟨S_, .i32⟩
  | 84 => ⟨S4096x5504, .i32⟩
  | 85 => ⟨S4096x5504, .i32⟩
  | 86 => ⟨S_, .i32⟩
  | 87 => ⟨S4096x5504, .i32⟩
  | 88 => ⟨S4096x5504, .i32⟩
  | 89 => ⟨S_, .i32⟩
  | 90 => ⟨S4096x5504, .i32⟩
  | 91 => ⟨S4096x5504, .i32⟩
  | 92 => ⟨S_, .i32⟩
  | 93 => ⟨S4096x5504, .i32⟩
  | 94 => ⟨S4096x5504, .i32⟩
  | 95 => ⟨S_, .i32⟩
  | 96 => ⟨S4096x5504, .i32⟩
  | 97 => ⟨S4096x5504, .i32⟩
  | 98 => ⟨S_, .i32⟩
  | 99 => ⟨S4096x5504, .i32⟩
  | 100 => ⟨S4096x5504, .i1⟩
  | 101 => ⟨S_, .i32⟩
  | 102 => ⟨S4096x5504, .i32⟩
  | 103 => ⟨S4096x5504, .i1⟩
  | 104 => ⟨S_, .i32⟩
  | 105 => ⟨S4096x5504, .i32⟩
  | 106 => ⟨S4096x5504, .i1⟩
  | 107 => ⟨S_, .i32⟩
  | 108 => ⟨S_, .i32⟩
  | 109 => ⟨S4096x5504, .i32⟩
  | 110 => ⟨S4096x5504, .i32⟩
  | 111 => ⟨S4096x5504, .i32⟩
  | 112 => ⟨S_, .i32⟩
  | 113 => ⟨S4096x5504, .i32⟩
  | 114 => ⟨S4096x5504, .i32⟩
  | 115 => ⟨S_, .i32⟩
  | 116 => ⟨S4096x5504, .i32⟩
  | 117 => ⟨S4096x5504, .i32⟩
  | 118 => ⟨S_, .i32⟩
  | 119 => ⟨S4096x5504, .i32⟩
  | 120 => ⟨S4096x5504, .i1⟩
  | 121 => ⟨S4096x5504, .i32⟩
  | 122 => ⟨S4096x5504, .i32⟩
  | 123 => ⟨S4096x5504, .i32⟩
  | 124 => ⟨S4096x5504, .i16⟩
  | 125 => ⟨S4096x5504, .bf16⟩
  | 126 => ⟨S8x5504, .f32⟩
  | 127 => ⟨S_, .i32⟩
  | _ => ⟨S8x1x4096, .bf16⟩

abbrev hbmTy0_1 (i : Nat) : BufTy := match i % 128 with
  | 0 => ⟨S4096x5504, .i32⟩
  | 1 => ⟨S4096x5504, .i32⟩
  | 2 => ⟨S_, .i32⟩
  | 3 => ⟨S4096x5504, .i32⟩
  | 4 => ⟨S4096x5504, .i32⟩
  | 5 => ⟨S_, .i32⟩
  | 6 => ⟨S4096x5504, .i32⟩
  | 7 => ⟨S4096x5504, .i32⟩
  | 8 => ⟨S_, .i32⟩
  | 9 => ⟨S4096x5504, .i32⟩
  | 10 => ⟨S4096x5504, .i32⟩
  | 11 => ⟨S_, .i32⟩
  | 12 => ⟨S4096x5504, .i32⟩
  | 13 => ⟨S4096x5504, .i32⟩
  | 14 => ⟨S_, .i32⟩
  | 15 => ⟨S4096x5504, .i32⟩
  | 16 => ⟨S4096x5504, .i1⟩
  | 17 => ⟨S_, .i32⟩
  | 18 => ⟨S4096x5504, .i32⟩
  | 19 => ⟨S4096x5504, .i1⟩
  | 20 => ⟨S_, .i32⟩
  | 21 => ⟨S4096x5504, .i32⟩
  | 22 => ⟨S4096x5504, .i1⟩
  | 23 => ⟨S_, .i32⟩
  | 24 => ⟨S_, .i32⟩
  | 25 => ⟨S4096x5504, .i32⟩
  | 26 => ⟨S4096x5504, .i32⟩
  | 27 => ⟨S4096x5504, .i32⟩
  | 28 => ⟨S_, .i32⟩
  | 29 => ⟨S4096x5504, .i32⟩
  | 30 => ⟨S4096x5504, .i32⟩
  | 31 => ⟨S_, .i32⟩
  | 32 => ⟨S4096x5504, .i32⟩
  | 33 => ⟨S4096x5504, .i32⟩
  | 34 => ⟨S_, .i32⟩
  | 35 => ⟨S4096x5504, .i32⟩
  | 36 => ⟨S4096x5504, .i1⟩
  | 37 => ⟨S4096x5504, .i32⟩
  | 38 => ⟨S4096x5504, .i32⟩
  | 39 => ⟨S4096x5504, .i32⟩
  | 40 => ⟨S4096x5504, .i16⟩
  | 41 => ⟨S4096x5504, .bf16⟩
  | 42 => ⟨S8x5504, .f32⟩
  | 43 => ⟨S_, .i32⟩
  | 44 => ⟨S4096x5504, .i32⟩
  | 45 => ⟨S4096x5504, .i32⟩
  | 46 => ⟨S_, .i32⟩
  | 47 => ⟨S4096x5504, .i32⟩
  | 48 => ⟨S4096x5504, .i32⟩
  | 49 => ⟨S_, .i32⟩
  | 50 => ⟨S4096x5504, .i32⟩
  | 51 => ⟨S4096x5504, .i32⟩
  | 52 => ⟨S_, .i32⟩
  | 53 => ⟨S4096x5504, .i32⟩
  | 54 => ⟨S4096x5504, .i32⟩
  | 55 => ⟨S_, .i32⟩
  | 56 => ⟨S4096x5504, .i32⟩
  | 57 => ⟨S4096x5504, .i32⟩
  | 58 => ⟨S_, .i32⟩
  | 59 => ⟨S4096x5504, .i32⟩
  | 60 => ⟨S4096x5504, .i1⟩
  | 61 => ⟨S_, .i32⟩
  | 62 => ⟨S4096x5504, .i32⟩
  | 63 => ⟨S4096x5504, .i1⟩
  | 64 => ⟨S_, .i32⟩
  | 65 => ⟨S4096x5504, .i32⟩
  | 66 => ⟨S4096x5504, .i1⟩
  | 67 => ⟨S_, .i32⟩
  | 68 => ⟨S_, .i32⟩
  | 69 => ⟨S4096x5504, .i32⟩
  | 70 => ⟨S4096x5504, .i32⟩
  | 71 => ⟨S4096x5504, .i32⟩
  | 72 => ⟨S_, .i32⟩
  | 73 => ⟨S4096x5504, .i32⟩
  | 74 => ⟨S4096x5504, .i32⟩
  | 75 => ⟨S_, .i32⟩
  | 76 => ⟨S4096x5504, .i32⟩
  | 77 => ⟨S4096x5504, .i32⟩
  | 78 => ⟨S_, .i32⟩
  | 79 => ⟨S4096x5504, .i32⟩
  | 80 => ⟨S4096x5504, .i1⟩
  | 81 => ⟨S4096x5504, .i32⟩
  | 82 => ⟨S4096x5504, .i32⟩
  | 83 => ⟨S4096x5504, .i32⟩
  | 84 => ⟨S4096x5504, .i16⟩
  | 85 => ⟨S4096x5504, .bf16⟩
  | 86 => ⟨S8x5504, .f32⟩
  | 87 => ⟨S8x5504x1, .f32⟩
  | 88 => ⟨S8x5504x1, .f32⟩
  | 89 => ⟨S8x5504x1, .f32⟩
  | 90 => ⟨S8x5504x1, .f32⟩
  | 91 => ⟨S8x5504x4, .f32⟩
  | 92 => ⟨S8x1x22016, .f32⟩
  | 93 => ⟨S1x1x22016, .f32⟩
  | 94 => ⟨S8x1x22016, .f32⟩
  | 95 => ⟨S8x1x22016, .f32⟩
  | 96 => ⟨S8x1x22016, .bf16⟩
  | 97 => ⟨S8x22016, .bf16⟩
  | _ => ⟨S8x1x4096, .bf16⟩

abbrev hbmTy (i : Nat) : BufTy := match i / 128 with
  | 0 => hbmTy0_0 i
  | 1 => hbmTy0_1 i
  | _ => ⟨S8x1x4096, .bf16⟩

abbrev bufTy : (tb : Table) → Fin (tcTables nBuf tb) → BufTy
  | .hbm, ⟨i, _⟩ => hbmTy i
  | _, _ => ⟨S8x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_6 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_v31 : Ref sig .tc := ⟨.hbm, 44, rfl⟩
abbrev main_c_9 : Ref sig .tc := ⟨.hbm, 45, rfl⟩
abbrev main_v32 : Ref sig .tc := ⟨.hbm, 46, rfl⟩
abbrev main_v33 : Ref sig .tc := ⟨.hbm, 47, rfl⟩
abbrev main_c_10 : Ref sig .tc := ⟨.hbm, 48, rfl⟩
abbrev main_v34 : Ref sig .tc := ⟨.hbm, 49, rfl⟩
abbrev main_v35 : Ref sig .tc := ⟨.hbm, 50, rfl⟩
abbrev main_c_11 : Ref sig .tc := ⟨.hbm, 51, rfl⟩
abbrev main_v36 : Ref sig .tc := ⟨.hbm, 52, rfl⟩
abbrev main_v37 : Ref sig .tc := ⟨.hbm, 53, rfl⟩
abbrev main_c_12 : Ref sig .tc := ⟨.hbm, 54, rfl⟩
abbrev main_v38 : Ref sig .tc := ⟨.hbm, 55, rfl⟩
abbrev main_v39 : Ref sig .tc := ⟨.hbm, 56, rfl⟩
abbrev main_c_13 : Ref sig .tc := ⟨.hbm, 57, rfl⟩
abbrev main_v40 : Ref sig .tc := ⟨.hbm, 58, rfl⟩
abbrev main_v41 : Ref sig .tc := ⟨.hbm, 59, rfl⟩
abbrev main_c_14 : Ref sig .tc := ⟨.hbm, 60, rfl⟩
abbrev main_v42 : Ref sig .tc := ⟨.hbm, 61, rfl⟩
abbrev main_v43 : Ref sig .tc := ⟨.hbm, 62, rfl⟩
abbrev main_c_15 : Ref sig .tc := ⟨.hbm, 63, rfl⟩
abbrev main_c_16 : Ref sig .tc := ⟨.hbm, 64, rfl⟩
abbrev main_call0_v0 : Ref sig .tc := ⟨.hbm, 65, rfl⟩
abbrev main_call0_v1 : Ref sig .tc := ⟨.hbm, 66, rfl⟩
abbrev main_v44 : Ref sig .tc := ⟨.hbm, 67, rfl⟩
abbrev main_c_17 : Ref sig .tc := ⟨.hbm, 68, rfl⟩
abbrev main_call1_v0 : Ref sig .tc := ⟨.hbm, 69, rfl⟩
abbrev main_v45 : Ref sig .tc := ⟨.hbm, 70, rfl⟩
abbrev main_c_18 : Ref sig .tc := ⟨.hbm, 71, rfl⟩
abbrev main_call2_v0 : Ref sig .tc := ⟨.hbm, 72, rfl⟩
abbrev main_v46 : Ref sig .tc := ⟨.hbm, 73, rfl⟩
abbrev main_c_19 : Ref sig .tc := ⟨.hbm, 74, rfl⟩
abbrev main_v47 : Ref sig .tc := ⟨.hbm, 75, rfl⟩
abbrev main_v48 : Ref sig .tc := ⟨.hbm, 76, rfl⟩
abbrev main_call3_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_20 : Ref sig .tc := ⟨.hbm, 83, rfl⟩
abbrev main_v54 : Ref sig .tc := ⟨.hbm, 84, rfl⟩
abbrev main_v55 : Ref sig .tc := ⟨.hbm, 85, rfl⟩
abbrev main_c_21 : Ref sig .tc := ⟨.hbm, 86, rfl⟩
abbrev main_v56 : Ref sig .tc := ⟨.hbm, 87, rfl⟩
abbrev main_v57 : Ref sig .tc := ⟨.hbm, 88, rfl⟩
abbrev main_c_22 : Ref sig .tc := ⟨.hbm, 89, rfl⟩
abbrev main_v58 : Ref sig .tc := ⟨.hbm, 90, rfl⟩
abbrev main_v59 : Ref sig .tc := ⟨.hbm, 91, rfl⟩
abbrev main_c_23 : Ref sig .tc := ⟨.hbm, 92, rfl⟩
abbrev main_v60 : Ref sig .tc := ⟨.hbm, 93, rfl⟩
abbrev main_v61 : Ref sig .tc := ⟨.hbm, 94, rfl⟩
abbrev main_c_24 : Ref sig .tc := ⟨.hbm, 95, rfl⟩
abbrev main_v62 : Ref sig .tc := ⟨.hbm, 96, rfl⟩
abbrev main_v63 : Ref sig .tc := ⟨.hbm, 97, rfl⟩
abbrev main_c_25 : Ref sig .tc := ⟨.hbm, 98, rfl⟩
abbrev main_v64 : Ref sig .tc := ⟨.hbm, 99, rfl⟩
abbrev main_v65 : Ref sig .tc := ⟨.hbm, 100, rfl⟩
abbrev main_c_26 : Ref sig .tc := ⟨.hbm, 101, rfl⟩
abbrev main_v66 : Ref sig .tc := ⟨.hbm, 102, rfl⟩
abbrev main_v67 : Ref sig .tc := ⟨.hbm, 103, rfl⟩
abbrev main_c_27 : Ref sig .tc := ⟨.hbm, 104, rfl⟩
abbrev main_v68 : Ref sig .tc := ⟨.hbm, 105, rfl⟩
abbrev main_v69 : Ref sig .tc := ⟨.hbm, 106, rfl⟩
abbrev main_c_28 : Ref sig .tc := ⟨.hbm, 107, rfl⟩
abbrev main_c_29 : Ref sig .tc := ⟨.hbm, 108, rfl⟩
abbrev main_call4_v0 : Ref sig .tc := ⟨.hbm, 109, rfl⟩
abbrev main_call4_v1 : Ref sig .tc := ⟨.hbm, 110, rfl⟩
abbrev main_v70 : Ref sig .tc := ⟨.hbm, 111, rfl⟩
abbrev main_c_30 : Ref sig .tc := ⟨.hbm, 112, rfl⟩
abbrev main_call5_v0 : Ref sig .tc := ⟨.hbm, 113, rfl⟩
abbrev main_v71 : Ref sig .tc := ⟨.hbm, 114, rfl⟩
abbrev main_c_31 : Ref sig .tc := ⟨.hbm, 115, rfl⟩
abbrev main_call6_v0 : Ref sig .tc := ⟨.hbm, 116, rfl⟩
abbrev main_v72 : Ref sig .tc := ⟨.hbm, 117, rfl⟩
abbrev main_c_32 : Ref sig .tc := ⟨.hbm, 118, rfl⟩
abbrev main_v73 : Ref sig .tc := ⟨.hbm, 119, rfl⟩
abbrev main_v74 : Ref sig .tc := ⟨.hbm, 120, rfl⟩
abbrev main_call7_v0 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_33 : Ref sig .tc := ⟨.hbm, 127, rfl⟩
abbrev main_v80 : Ref sig .tc := ⟨.hbm, 128, rfl⟩
abbrev main_v81 : Ref sig .tc := ⟨.hbm, 129, rfl⟩
abbrev main_c_34 : Ref sig .tc := ⟨.hbm, 130, rfl⟩
abbrev main_v82 : Ref sig .tc := ⟨.hbm, 131, rfl⟩
abbrev main_v83 : Ref sig .tc := ⟨.hbm, 132, rfl⟩
abbrev main_c_35 : Ref sig .tc := ⟨.hbm, 133, rfl⟩
abbrev main_v84 : Ref sig .tc := ⟨.hbm, 134, rfl⟩
abbrev main_v85 : Ref sig .tc := ⟨.hbm, 135, rfl⟩
abbrev main_c_36 : Ref sig .tc := ⟨.hbm, 136, rfl⟩
abbrev main_v86 : Ref sig .tc := ⟨.hbm, 137, rfl⟩
abbrev main_v87 : Ref sig .tc := ⟨.hbm, 138, rfl⟩
abbrev main_c_37 : Ref sig .tc := ⟨.hbm, 139, rfl⟩
abbrev main_v88 : Ref sig .tc := ⟨.hbm, 140, rfl⟩
abbrev main_v89 : Ref sig .tc := ⟨.hbm, 141, rfl⟩
abbrev main_c_38 : Ref sig .tc := ⟨.hbm, 142, rfl⟩
abbrev main_v90 : Ref sig .tc := ⟨.hbm, 143, rfl⟩
abbrev main_v91 : Ref sig .tc := ⟨.hbm, 144, rfl⟩
abbrev main_c_39 : Ref sig .tc := ⟨.hbm, 145, rfl⟩
abbrev main_v92 : Ref sig .tc := ⟨.hbm, 146, rfl⟩
abbrev main_v93 : Ref sig .tc := ⟨.hbm, 147, rfl⟩
abbrev main_c_40 : Ref sig .tc := ⟨.hbm, 148, rfl⟩
abbrev main_v94 : Ref sig .tc := ⟨.hbm, 149, rfl⟩
abbrev main_v95 : Ref sig .tc := ⟨.hbm, 150, rfl⟩
abbrev main_c_41 : Ref sig .tc := ⟨.hbm, 151, rfl⟩
abbrev main_c_42 : Ref sig .tc := ⟨.hbm, 152, rfl⟩
abbrev main_call8_v0 : Ref sig .tc := ⟨.hbm, 153, rfl⟩
abbrev main_call8_v1 : Ref sig .tc := ⟨.hbm, 154, rfl⟩
abbrev main_v96 : Ref sig .tc := ⟨.hbm, 155, rfl⟩
abbrev main_c_43 : Ref sig .tc := ⟨.hbm, 156, rfl⟩
abbrev main_call9_v0 : Ref sig .tc := ⟨.hbm, 157, rfl⟩
abbrev main_v97 : Ref sig .tc := ⟨.hbm, 158, rfl⟩
abbrev main_c_44 : Ref sig .tc := ⟨.hbm, 159, rfl⟩
abbrev main_call10_v0 : Ref sig .tc := ⟨.hbm, 160, rfl⟩
abbrev main_v98 : Ref sig .tc := ⟨.hbm, 161, rfl⟩
abbrev main_c_45 : Ref sig .tc := ⟨.hbm, 162, rfl⟩
abbrev main_v99 : Ref sig .tc := ⟨.hbm, 163, rfl⟩
abbrev main_v100 : Ref sig .tc := ⟨.hbm, 164, rfl⟩
abbrev main_call11_v0 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_c_46 : Ref sig .tc := ⟨.hbm, 171, rfl⟩
abbrev main_v106 : Ref sig .tc := ⟨.hbm, 172, rfl⟩
abbrev main_v107 : Ref sig .tc := ⟨.hbm, 173, rfl⟩
abbrev main_c_47 : Ref sig .tc := ⟨.hbm, 174, rfl⟩
abbrev main_v108 : Ref sig .tc := ⟨.hbm, 175, rfl⟩
abbrev main_v109 : Ref sig .tc := ⟨.hbm, 176, rfl⟩
abbrev main_c_48 : Ref sig .tc := ⟨.hbm, 177, rfl⟩
abbrev main_v110 : Ref sig .tc := ⟨.hbm, 178, rfl⟩
abbrev main_v111 : Ref sig .tc := ⟨.hbm, 179, rfl⟩
abbrev main_c_49 : Ref sig .tc := ⟨.hbm, 180, rfl⟩
abbrev main_v112 : Ref sig .tc := ⟨.hbm, 181, rfl⟩
abbrev main_v113 : Ref sig .tc := ⟨.hbm, 182, rfl⟩
abbrev main_c_50 : Ref sig .tc := ⟨.hbm, 183, rfl⟩
abbrev main_v114 : Ref sig .tc := ⟨.hbm, 184, rfl⟩
abbrev main_v115 : Ref sig .tc := ⟨.hbm, 185, rfl⟩
abbrev main_c_51 : Ref sig .tc := ⟨.hbm, 186, rfl⟩
abbrev main_v116 : Ref sig .tc := ⟨.hbm, 187, rfl⟩
abbrev main_v117 : Ref sig .tc := ⟨.hbm, 188, rfl⟩
abbrev main_c_52 : Ref sig .tc := ⟨.hbm, 189, rfl⟩
abbrev main_v118 : Ref sig .tc := ⟨.hbm, 190, rfl⟩
abbrev main_v119 : Ref sig .tc := ⟨.hbm, 191, rfl⟩
abbrev main_c_53 : Ref sig .tc := ⟨.hbm, 192, rfl⟩
abbrev main_v120 : Ref sig .tc := ⟨.hbm, 193, rfl⟩
abbrev main_v121 : Ref sig .tc := ⟨.hbm, 194, rfl⟩
abbrev main_c_54 : Ref sig .tc := ⟨.hbm, 195, rfl⟩
abbrev main_c_55 : Ref sig .tc := ⟨.hbm, 196, rfl⟩
abbrev main_call12_v0 : Ref sig .tc := ⟨.hbm, 197, rfl⟩
abbrev main_call12_v1 : Ref sig .tc := ⟨.hbm, 198, rfl⟩
abbrev main_v122 : Ref sig .tc := ⟨.hbm, 199, rfl⟩
abbrev main_c_56 : Ref sig .tc := ⟨.hbm, 200, rfl⟩
abbrev main_call13_v0 : Ref sig .tc := ⟨.hbm, 201, rfl⟩
abbrev main_v123 : Ref sig .tc := ⟨.hbm, 202, rfl⟩
abbrev main_c_57 : Ref sig .tc := ⟨.hbm, 203, rfl⟩
abbrev main_call14_v0 : Ref sig .tc := ⟨.hbm, 204, rfl⟩
abbrev main_v124 : Ref sig .tc := ⟨.hbm, 205, rfl⟩
abbrev main_c_58 : Ref sig .tc := ⟨.hbm, 206, rfl⟩
abbrev main_v125 : Ref sig .tc := ⟨.hbm, 207, rfl⟩
abbrev main_v126 : Ref sig .tc := ⟨.hbm, 208, rfl⟩
abbrev main_call15_v0 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩

abbrev nD : Nat := 1
abbrev τ : Topo := Topo.v7x

variable {F : FTy → Type} [FloatOps F]
-- ==== Proof.Tiles.lean ====
/- The vocabulary the kernel's body is read in: ONE term for what a weight tile adds to the accumulator and ONE recursion for the
   list of pieces the 43 tiles store, each stated for every tile at once. The bridges to the executor's own terms are in `RunTiles.lean`. -/
module

public import proofs.«01_k».proof.Proof.Gen.KernelIdeal.Frame.Runs

@[expose] public section

set_option maxRecDepth 16384

noncomputable section

namespace Cert.KernelIdeal.Tiles

open Idealize.ShloMosaic Idealize.ShloMosaic.TcCoe Idealize.ShloMosaic.Tactic
open Cert.KernelIdeal Cert.KernelIdeal.Gen

variable {F : FTy → Type} [FloatOps F]

/-- Tile `j`'s columns of the accumulator stay inside it. -/
theorem inbAcc (j : ℕ) (hj : j < 43) : ∀ a, (![0, 512 * j] : Fin 2 → ℕ) a + S8x512.size a ≤ S8x22016.size a := by
  intro a
  match a with
  | ⟨0, _⟩ => show 0 + 8 ≤ 8; omega
  | ⟨1, _⟩ => show 512 * j + 512 ≤ 22016; omega

/-- Byte plane `p` of tile `j`'s columns stays inside the packed weight block. -/
theorem inbW (p j : ℕ) (hp : p < 3) (hj : j < 43) :
    ∀ a, (![p, 0, 128 * j] : Fin 3 → ℕ) a + S1x256x128.size a ≤ S3x256x5504.size a := by
  intro a
  match a with
  | ⟨0, _⟩ => show p + 1 ≤ 3; omega
  | ⟨1, _⟩ => show 0 + 256 ≤ 256; omega
  | ⟨2, _⟩ => show 128 * j + 128 ≤ 5504; omega

/-- Tile `j`'s 512 columns of a row of 22016. -/
abbrev rAcc (j : ℕ) (hj : j < 43) : Rect S8x22016 := Rect.unit (s := S8x22016) ![0, 512 * j] S8x512.size (inbAcc j hj)

/-- Byte plane `p` of tile `j`'s 128 packed columns. -/
abbrev rW (p j : ℕ) (hp : p < 3) (hj : j < 43) : Rect S3x256x5504 :=
  Rect.unit (s := S3x256x5504) ![p, 0, 128 * j] S1x256x128.size (inbW p j hp hj)

/-- A byte tile read as words: word row `r` of a lane holds byte rows `4r … 4r + 3`, row `4r` the lowest byte. -/
def words (b : Vec F S1x256x128 .i8) : IVec S64x128 32 :=
  bitcast S64x128 32 (shapeCast S256x128 b shapeCasts_S1x256x128_S256x128) bitcasts_S256x128_w8_S64x128_w32

/-- Four 6-bit codes in the low bits of four bytes, re-biased in place to e5m2 bytes: the sign bit moves from bit 5 to bit 7. -/
def rebias (c : IVec S64x128 32) : IVec S64x128 32 :=
  andi (addi (andi c (broadcast S64x128 1061109567#32)) (broadcast S64x128 1616928864#32)) (broadcast S64x128 2678038431#32)

/-- The decoded weights of one code field: the re-biased bytes read as e5m2 and widened. -/
def decode (c : IVec S64x128 32) : FVec F S256x128 .bf16 :=
  extf .bf16 (bitcastToFloat .fp8e5m2 (bitcast S256x128 8 (rebias c) bitcasts_S64x128_w32_S256x128_w8)) bitsLt_fp8e5m2_bf16

/-- Bits 6 … 11 of the three packed bytes, at bits 2 … 7 of each byte. -/
def mid1 (w0 w1 : IVec S64x128 32) : IVec S64x128 32 :=
  ori (andi (shli w1 (broadcast S64x128 4#32)) (broadcast S64x128 4042322160#32))
    (andi (shrui w0 (broadcast S64x128 4#32)) (broadcast S64x128 252645135#32))

/-- Bits 12 … 17 of the three packed bytes, at bits 0 … 5 of each byte. -/
def mid2 (w1 w2 : IVec S64x128 32) : IVec S64x128 32 :=
  ori (andi (shrui w1 (broadcast S64x128 4#32)) (broadcast S64x128 252645135#32))
    (andi (shli w2 (broadcast S64x128 4#32)) (broadcast S64x128 4042322160#32))

/-- The four code words of a tile. -/
def code0 (w0 : IVec S64x128 32) : IVec S64x128 32 := w0
def code1 (w0 w1 : IVec S64x128 32) : IVec S64x128 32 := shrui (mid1 w0 w1) (broadcast S64x128 2#32)
def code2 (w1 w2 : IVec S64x128 32) : IVec S64x128 32 := mid2 w1 w2
def code3 (w2 : IVec S64x128 32) : IVec S64x128 32 := shrui w2 (broadcast S64x128 2#32)

/-- A tile's decoded weights: its four fields side by side, 128 lanes each. -/
def decoded (b0 b1 b2 : Vec F S1x256x128 .i8) : FVec F S256x512 .bf16 :=
  concatenate S256x512 1 [⟨S256x128, decode (code0 (words b0))⟩, ⟨S256x128, decode (code1 (words b0) (words b1))⟩,
    ⟨S256x128, decode (code2 (words b1) (words b2))⟩, ⟨S256x128, decode (code3 (words b2))⟩]
    concatenates_S256x128_S256x128_S256x128_S256x128_S256x512_d1

/-- What one tile leaves in its columns of the accumulator, over what they held (`a`). -/
def accTile (x : FVec F S8x256 .bf16) (b0 b1 b2 : Vec F S1x256x128 .i8) (a : Vec F S8x512 .f32) : FVec F S8x512 .f32 :=
  shapeCast S8x512 (addf a (matmul dot_S8x256_S256x512_S8x512_1_0_0_1_n_n none x (decoded b0 b1 b2)
    (constant S8x512 .f32 0x00000000#32))) shapeCasts_S8x512_S8x512

/-- The activation block as the body uses it. -/
def xTile (x : Vec F S8x256 .bf16) : FVec F S8x256 .bf16 := shapeCast S8x256 x shapeCasts_S8x256_S8x256

/-- The pieces the first `n` tiles store into the accumulator, last first, over the list `init` stored before them: tile `j` stores
    `accTile` at its columns, of its three byte planes (`ld`) and of what its columns held (`rd`, a reading of the pieces stored so far). -/
def pieces (x : FVec F S8x256 .bf16) (ld : ∀ p j : ℕ, p < 3 → j < 43 → Vec F S1x256x128 .i8)
    (rd : List (View.Piece (Elt F) S8x22016 .f32) → ∀ j : ℕ, j < 43 → Vec F S8x512 .f32)
    (init : List (View.Piece (Elt F) S8x22016 .f32)) : (n : ℕ) → n ≤ 43 → List (View.Piece (Elt F) S8x22016 .f32)
  | 0, _ => init
  | n + 1, h =>
    ⟨rAcc n h, accTile x (ld 0 n (by decide) h) (ld 1 n (by decide) h) (ld 2 n (by decide) h)
      (rd (pieces x ld rd init n (Nat.le_of_succ_le h)) n h)⟩ :: pieces x ld rd init n (Nat.le_of_succ_le h)

/-- Lane numbers `0 … 127` of a register row. -/
def lane : IVec S8x128 32 := iota .tc S8x128 32 [1] iota_S8x128_d1_w32

/-- `lane // 4`, rounded down as the body computes it: the truncated quotient, less one where the signs differ and the remainder is not zero. -/
def laneDiv : IVec S8x128 32 :=
  select (andi (cmpi .ne (subi (extui 32 (cmpi .sgt lane (broadcast S8x128 0#32)) natLt_1_32) (extui 32 (cmpi .slt lane (broadcast S8x128 0#32)) natLt_1_32))
      (broadcast S8x128 1#32)) (cmpi .ne (remsi lane (broadcast S8x128 4#32)) (broadcast S8x128 0#32)))
    (subi (divsi lane (broadcast S8x128 4#32)) (broadcast S8x128 1#32)) (divsi lane (broadcast S8x128 4#32))

/-- `lane % 4`, with the divisor's sign as the body computes it. -/
def laneMod : IVec S8x128 32 :=
  select (andi (xori (cmpi .slt (remsi lane (broadcast S8x128 4#32)) (broadcast S8x128 0#32))
      (broadcastTo S8x128 (broadcast S8x128 0#1) broadcasts_S8x128_S8x128)) (cmpi .ne (remsi lane (broadcast S8x128 4#32)) (broadcast S8x128 0#32)))
    (addi (remsi lane (broadcast S8x128 4#32)) (broadcast S8x128 4#32)) (remsi lane (broadcast S8x128 4#32))

/-- The source lane of every lane of output quarter `b / 32`: `b + lane // 4`, a negative index counted from the end. -/
def srcLane (b : BitVec 32) : IVec S8x128 32 :=
  shapeCast S8x128 (shapeCast S8x128x1 (select (cmpi .slt (addi (broadcast S8x128 b) laneDiv) (broadcast S8x128 0#32))
    (addi (addi (broadcast S8x128 b) laneDiv) (broadcast S8x128 128#32)) (addi (broadcast S8x128 b) laneDiv))
    shapeCasts_S8x128_S8x128x1) shapeCasts_S8x128x1_S8x128

/-- One quarter of the interleaved row: lane `l` takes field `l % 4` at lane `b + l / 4`. -/
def quarter (f0 f1 f2 f3 : FVec F S8x128 .f32) (b : BitVec 32) : FVec F S8x128 .f32 :=
  select (cmpi .eq laneMod (broadcast S8x128 3#32)) (dynamicGather 1 f3 (srcLane b))
    (select (cmpi .eq laneMod (broadcast S8x128 2#32)) (dynamicGather 1 f2 (srcLane b))
      (select (cmpi .eq laneMod (broadcast S8x128 1#32)) (dynamicGather 1 f1 (srcLane b)) (dynamicGather 1 f0 (srcLane b))))

/-- A tile's four fields of the accumulator interleaved lane by lane. -/
def interleaved (f0 f1 f2 f3 : FVec F S8x128 .f32) : FVec F S8x512 .f32 :=
  concatenate S8x512 1 [⟨S8x128, quarter f0 f1 f2 f3 0#32⟩, ⟨S8x128, quarter f0 f1 f2 f3 32#32⟩,
    ⟨S8x128, quarter f0 f1 f2 f3 64#32⟩, ⟨S8x128, quarter f0 f1 f2 f3 96#32⟩] concatenates_S8x128_S8x128_S8x128_S8x128_S8x512_d1

/-- What the last grid point stores for one tile: the accumulator's columns interleaved, times 4096, times the scales, rounded to bf16. -/
def outTile (a : Vec F S8x512 .f32) (s : Vec F S1x512 .f32) : FVec F S8x512 .bf16 :=
  truncf .bf16 (mulf (mulf (interleaved
      (extractStridedSlice S8x128 ![0, 0] a slices_S8x512_o0_0_S8x128) (extractStridedSlice S8x128 ![0, 128] a slices_S8x512_o0_128_S8x128)
      (extractStridedSlice S8x128 ![0, 256] a slices_S8x512_o0_256_S8x128) (extractStridedSlice S8x128 ![0, 384] a slices_S8x512_o0_384_S8x128))
    (broadcast S8x512 (Scalar.ofBits .f32 0x45800000#32)))
    (broadcastTo S8x512 (shapeCast S1x512 s shapeCasts_S1x512_S1x512) broadcasts_S1x512_S8x512)) bitsLt_bf16_f32

/-- Tile `j`'s 512 columns of the scales stay inside them. -/
theorem inbS (j : ℕ) (hj : j < 43) : ∀ a, (![0, 512 * j] : Fin 2 → ℕ) a + S1x512.size a ≤ S1x22016.size a := by
  intro a
  match a with
  | ⟨0, _⟩ => show 0 + 1 ≤ 1; omega
  | ⟨1, _⟩ => show 512 * j + 512 ≤ 22016; omega

/-- Tile `j`'s 512 columns of the scales. -/
abbrev rS (j : ℕ) (hj : j < 43) : Rect S1x22016 := Rect.unit (s := S1x22016) ![0, 512 * j] S1x512.size (inbS j hj)

/-- The pieces the first `n` tiles of the last grid point store into the output, last first. -/
def outPieces (acc : ∀ j : ℕ, j < 43 → Vec F S8x512 .f32) (sc : ∀ j : ℕ, j < 43 → Vec F S1x512 .f32) :
    (n : ℕ) → n ≤ 43 → List (View.Piece (Elt F) S8x22016 .bf16)
  | 0, _ => []
  | n + 1, h => ⟨rAcc n h, outTile (acc n h) (sc n h)⟩ :: outPieces acc sc n (Nat.le_of_succ_le h)

end Cert.KernelIdeal.Tiles

end
-- ==== Proof.RunTiles.lean ====
/- The bridges from the executor's store witnesses to the vocabulary of `Tiles.lean`, one per case of the body: the three cases store the
   same recursion of 43 pieces into the accumulator, differing only in what a tile reads there, and the last case also stores the output. -/
module

public import proofs.«01_k».proof.Proof.Gen.KernelIdeal.Frame.RunA
public import proofs.«01_k».proof.Proof.Gen.KernelIdeal.Frame.RunB
public import proofs.«01_k».proof.Proof.Gen.KernelIdeal.Frame.RunC
public import proofs.«01_k».proof.Proof.Tiles

@[expose] public section

set_option maxRecDepth 65536

noncomputable section

namespace Cert.KernelIdeal.Tiles

open Idealize.ShloMosaic Idealize.ShloMosaic.TcCoe Idealize.ShloMosaic.Tactic
open Cert.KernelIdeal Cert.KernelIdeal.Gen

variable {F : FTy → Type} [FloatOps F]

/-- The activation block a run reads from its staging memref. -/
def ldX {arg1 : Memref sig .tc .vmem S8x256 .bf16} (harg1 : arg1.IsWhole) (x0 : Vec F S8x256 .bf16) : FVec F S8x256 .bf16 :=
  xTile (View.readAt (Elt F) arg1.view (Rect.unit (s := S8x256) ![0, 0] S8x256.size inb_S8x256_S8x256_0_0).toLoadRect (harg1.unread x0))

/-- The byte planes a run reads from the weight block's staging memref. -/
def ldW {arg2 : Memref sig .tc .vmem S3x256x5504 .i8} (harg2 : arg2.IsWhole) (x1 : Vec F S3x256x5504 .i8) (p j : ℕ) (hp : p < 3) (hj : j < 43) :
    Vec F S1x256x128 .i8 :=
  View.readAt (Elt F) arg2.view (rW p j hp hj).toLoadRect (harg2.unread x1)

/-- The scales a run reads from their staging memref. -/
def ldS {arg3 : Memref sig .tc .vmem S1x22016 .f32} (harg3 : arg3.IsWhole) (x2 : Vec F S1x22016 .f32) (j : ℕ) (hj : j < 43) : Vec F S1x512 .f32 :=
  View.readAt (Elt F) arg3.view (rS j hj).toLoadRect (harg3.unread x2)

/-- The accumulator's columns a run reads before it has stored there: what the point before left. -/
def ldAcc {arg5 : Memref sig .tc .vmem S8x22016 .f32} (harg5 : arg5.IsWhole) (xs0 : Vec F S8x22016 .f32) (j : ℕ) (hj : j < 43) : Vec F S8x512 .f32 :=
  View.readAt (Elt F) arg5.view (rAcc j hj).toLoadRect (harg5.unread xs0)

/-- The zero fill of the first grid point. -/
def zeroPiece : View.Piece (Elt F) S8x22016 .f32 :=
  ⟨Rect.unit (s := S8x22016) ![0, 0] S8x22016.size inb_S8x22016_S8x22016_0_0, k0_pay1976 (F := F)⟩

/-- At the first grid point the accumulator is filled with zeros and then every tile adds over what it reads back. -/
theorem piecesA (c : Dev nD) (i : grid0.Coords)
    (arg1 : Memref sig .tc .vmem S8x256 .bf16) (harg1 : arg1.IsWhole) (arg2 : Memref sig .tc .vmem S3x256x5504 .i8) (harg2 : arg2.IsWhole)
    (arg3 : Memref sig .tc .vmem S1x22016 .f32) (harg3 : arg3.IsWhole) (arg4 : Memref sig .tc .vmem S8x22016 .bf16) (harg4 : arg4.IsWhole)
    (arg5 : Memref sig .tc .vmem S8x22016 .f32) (harg5 : arg5.IsWhole) (hc0 : cond0_0 i) (hc1 : ¬cond0_1 i)
    (x0 : Vec F S8x256 .bf16) (x1 : Vec F S3x256x5504 .i8) (x2 : Vec F S1x22016 .f32) :
    (kernelRun0_A c i arg1 harg1 arg2 harg2 arg3 harg3 arg4 harg4 arg5 harg5 hc0 hc1 x0 x1 x2).2.1
      = pieces (ldX harg1 x0) (ldW harg2 x1) (fun L j hj => arg5.view.readCov L (rAcc j hj).toLoadRect) [zeroPiece] 43 (le_refl _) := by
  rfl

/-- At a later grid point every tile adds over what the point before left. -/
theorem piecesB (c : Dev nD) (i : grid0.Coords)
    (arg1 : Memref sig .tc .vmem S8x256 .bf16) (harg1 : arg1.IsWhole) (arg2 : Memref sig .tc .vmem S3x256x5504 .i8) (harg2 : arg2.IsWhole)
    (arg3 : Memref sig .tc .vmem S1x22016 .f32) (harg3 : arg3.IsWhole) (arg4 : Memref sig .tc .vmem S8x22016 .bf16) (harg4 : arg4.IsWhole)
    (arg5 : Memref sig .tc .vmem S8x22016 .f32) (harg5 : arg5.IsWhole) (hc0 : ¬cond0_0 i) (hc1 : ¬cond0_1 i)
    (x0 : Vec F S8x256 .bf16) (x1 : Vec F S3x256x5504 .i8) (x2 : Vec F S1x22016 .f32) (xs0 : Vec F S8x22016 .f32) :
    (kernelRun0_B c i arg1 harg1 arg2 harg2 arg3 harg3 arg4 harg4 arg5 harg5 hc0 hc1 x0 x1 x2 xs0).2.1
      = pieces (ldX harg1 x0) (ldW harg2 x1) (fun _ j hj => ldAcc harg5 xs0 j hj) [] 43 (le_refl _) := by
  rfl

/-- At the last grid point every tile adds over what the point before left. -/
theorem piecesC (c : Dev nD) (i : grid0.Coords)
    (arg1 : Memref sig .tc .vmem S8x256 .bf16) (harg1 : arg1.IsWhole) (arg2 : Memref sig .tc .vmem S3x256x5504 .i8) (harg2 : arg2.IsWhole)
    (arg3 : Memref sig .tc .vmem S1x22016 .f32) (harg3 : arg3.IsWhole) (arg4 : Memref sig .tc .vmem S8x22016 .bf16) (harg4 : arg4.IsWhole)
    (arg5 : Memref sig .tc .vmem S8x22016 .f32) (harg5 : arg5.IsWhole) (hc0 : ¬cond0_0 i) (hc1 : cond0_1 i)
    (x0 : Vec F S8x256 .bf16) (x1 : Vec F S3x256x5504 .i8) (x2 : Vec F S1x22016 .f32) (xs0 : Vec F S8x22016 .f32) :
    (kernelRun0_C c i arg1 harg1 arg2 harg2 arg3 harg3 arg4 harg4 arg5 harg5 hc0 hc1 x0 x1 x2 xs0).2.1
      = pieces (ldX harg1 x0) (ldW harg2 x1) (fun _ j hj => ldAcc harg5 xs0 j hj) [] 43 (le_refl _) := by
  rfl

/-- At the last grid point every output tile is `outTile` of the accumulator read back and the tile's scales. -/
theorem outPiecesC (c : Dev nD) (i : grid0.Coords)
    (arg1 : Memref sig .tc .vmem S8x256 .bf16) (harg1 : arg1.IsWhole) (arg2 : Memref sig .tc .vmem S3x256x5504 .i8) (harg2 : arg2.IsWhole)
    (arg3 : Memref sig .tc .vmem S1x22016 .f32) (harg3 : arg3.IsWhole) (arg4 : Memref sig .tc .vmem S8x22016 .bf16) (harg4 : arg4.IsWhole)
    (arg5 : Memref sig .tc .vmem S8x22016 .f32) (harg5 : arg5.IsWhole) (hc0 : ¬cond0_0 i) (hc1 : cond0_1 i)
    (x0 : Vec F S8x256 .bf16) (x1 : Vec F S3x256x5504 .i8) (x2 : Vec F S1x22016 .f32) (xs0 : Vec F S8x22016 .f32) :
    (kernelRun0_C c i arg1 harg1 arg2 harg2 arg3 harg3 arg4 harg4 arg5 harg5 hc0 hc1 x0 x1 x2 xs0).1
      = outPieces (fun j hj => arg5.view.readCov (pieces (ldX harg1 x0) (ldW harg2 x1) (fun _ j hj => ldAcc harg5 xs0 j hj) [] 43 (le_refl _))
          (rAcc j hj).toLoadRect) (ldS harg3 x2) 43 (le_refl _) := by
  rfl

end Cert.KernelIdeal.Tiles

end
-- ==== Proof.Codes.lean ====
/- The 6-bit codes and what they mean, on single bytes and words: the kernel's word-at-a-time extraction and re-biasing read byte by byte, the
   reference's 32-bit extraction, and the table that says the two decodings agree up to the factor 4096. -/
module

public import Idealize.ShloMosaic.Lib.PackedFields
public import Idealize.ShloMosaic.PureOps
public import Idealize.ShloMosaic.PureOps.Ideal
public import Mathlib.Tactic.IntervalCases
public import Mathlib.Tactic.NormNum
public import Mathlib.Tactic.Ring

@[expose] public section

noncomputable section

namespace Cert.Codes

open Idealize.ShloMosaic Idealize.ShloMosaic.PackedFields

/-- Byte `i` of a word, byte 0 the lowest. -/
def byteAt (w : BitVec 32) (i : ℕ) : BitVec 8 := w.extractLsb' (8 * i) 8

theorem byteAt_getLsbD (w : BitVec 32) (i q : ℕ) : (byteAt w i).getLsbD q = (decide (q < 8) && w.getLsbD (8 * i + q)) := by
  simp [byteAt]

/-- A byte of a word is its base-256 digit. -/
theorem byteAt_toNat (w : BitVec 32) (i : ℕ) : (byteAt w i).toNat = field 8 i w.toNat := by
  simp [byteAt, field]

/-- The conjunction, byte by byte. -/
theorem byteAt_and (a b : BitVec 32) (i : ℕ) : byteAt (a &&& b) i = byteAt a i &&& byteAt b i := by
  ext q hq
  simp [byteAt, hq]

/-- The disjunction, byte by byte. -/
theorem byteAt_or (a b : BitVec 32) (i : ℕ) : byteAt (a ||| b) i = byteAt a i ||| byteAt b i := by
  ext q hq
  simp [byteAt, hq]

/-- A left shift by 4 masked to the high nibbles shifts every byte. -/
theorem byteAt_shl4 (a : BitVec 32) (i : ℕ) (hi : i < 4) : byteAt ((a <<< 4) &&& 4042322160#32) i = byteAt a i <<< 4 := by
  apply BitVec.eq_of_getLsbD_eq
  intro q hq
  interval_cases i <;> interval_cases q <;> simp [byteAt]

/-- A right shift by 4 masked to the low nibbles shifts every byte. -/
theorem byteAt_shr4 (a : BitVec 32) (i : ℕ) (hi : i < 4) : byteAt ((a >>> 4) &&& 252645135#32) i = byteAt a i >>> 4 := by
  apply BitVec.eq_of_getLsbD_eq
  intro q hq
  interval_cases i <;> interval_cases q <;> simp [byteAt]

/-- A right shift by 2 masked to the low six bits shifts every byte. -/
theorem byteAt_shr2 (a : BitVec 32) (i : ℕ) (hi : i < 4) : byteAt ((a >>> 2) &&& 1061109567#32) i = byteAt a i >>> 2 := by
  apply BitVec.eq_of_getLsbD_eq
  intro q hq
  interval_cases i <;> interval_cases q <;> simp [byteAt]

/-- The masks' bytes. -/
theorem byteAt_3F (i : ℕ) (hi : i < 4) : byteAt 1061109567#32 i = 63#8 := by interval_cases i <;> rfl
theorem byteAt_60 (i : ℕ) (hi : i < 4) : byteAt 1616928864#32 i = 96#8 := by interval_cases i <;> rfl
theorem byteAt_9F (i : ℕ) (hi : i < 4) : byteAt 2678038431#32 i = 159#8 := by interval_cases i <;> rfl

/-- A 6-bit code re-biased to an e5m2 byte. -/
def rebiasByte (x : BitVec 8) : BitVec 8 := (x + 96#8) &&& 159#8

/-- Re-biasing a word of masked codes re-biases every byte: no byte's sum carries. -/
theorem byteAt_rebias (a : BitVec 32) (i : ℕ) (hi : i < 4) :
    byteAt (((a &&& 1061109567#32) + 1616928864#32) &&& 2678038431#32) i = rebiasByte (byteAt (a &&& 1061109567#32) i) := by
  have hm : ∀ k < 4, (byteAt (a &&& 1061109567#32) k).toNat ≤ 63 := fun k hk => by
    rw [byteAt_and, byteAt_3F k hk, BitVec.toNat_and]
    exact Nat.and_le_right
  have hs : byteAt ((a &&& 1061109567#32) + 1616928864#32) i = byteAt (a &&& 1061109567#32) i + 96#8 := by
    apply BitVec.eq_of_toNat_eq
    have h60 : ∀ k < 4, field 8 k (1616928864#32).toNat = 96 := fun k hk => by rw [← byteAt_toNat, byteAt_60 k hk]; rfl
    have e := field_addi (w := 8) (n := 4) rfl (a &&& 1061109567#32) 1616928864#32
      (fun k hk => by rw [h60 k hk, ← byteAt_toNat]; have := hm k hk; omega) i hi
    rw [byteAt_toNat]
    rw [show (a &&& 1061109567#32) + 1616928864#32 = IntOp.addi (a &&& 1061109567#32) 1616928864#32 from rfl, e, h60 i hi,
      ← byteAt_toNat, BitVec.toNat_add]
    have := hm i hi
    show _ = (_ + 96) % 256
    omega
  rw [byteAt_and, hs, byteAt_9F i hi, rebiasByte]

/-- The 6-bit code of field `f` of three packed bytes. -/
def codeByte (f : Fin 4) (b0 b1 b2 : BitVec 8) : BitVec 8 :=
  match f with
  | 0 => b0 &&& 63#8
  | 1 => ((b1 <<< 4) ||| (b0 >>> 4)) >>> 2
  | 2 => ((b1 >>> 4) ||| (b2 <<< 4)) &&& 63#8
  | 3 => b2 >>> 2

/-- The word of field `f` before masking, from three words of packed bytes. -/
def codeWord (f : Fin 4) (w0 w1 w2 : BitVec 32) : BitVec 32 :=
  match f with
  | 0 => w0
  | 1 => (((w1 <<< 4) &&& 4042322160#32) ||| ((w0 >>> 4) &&& 252645135#32)) >>> 2
  | 2 => ((w1 >>> 4) &&& 252645135#32) ||| ((w2 <<< 4) &&& 4042322160#32)
  | 3 => w2 >>> 2

/-- The masked code word's bytes are the bytes' codes. -/
theorem byteAt_codeWord (f : Fin 4) (w0 w1 w2 : BitVec 32) (i : ℕ) (hi : i < 4) :
    byteAt (codeWord f w0 w1 w2 &&& 1061109567#32) i = codeByte f (byteAt w0 i) (byteAt w1 i) (byteAt w2 i) := by
  match f with
  | 0 => simp only [codeWord, codeByte]; rw [byteAt_and, byteAt_3F i hi]
  | 1 => simp only [codeWord, codeByte]; rw [byteAt_shr2 _ i hi, byteAt_or, byteAt_shl4 _ i hi, byteAt_shr4 _ i hi]
  | 2 => simp only [codeWord, codeByte]; rw [byteAt_and, byteAt_or, byteAt_shl4 _ i hi, byteAt_shr4 _ i hi, byteAt_3F i hi]
  | 3 => simp only [codeWord, codeByte]; rw [byteAt_shr2 _ i hi]

/-- A code is below 64. -/
theorem codeByte_lt (f : Fin 4) (b0 b1 b2 : BitVec 8) : (codeByte f b0 b1 b2).toNat < 64 := by
  match f with
  | 0 => simp only [codeByte, BitVec.toNat_and]; exact Nat.lt_succ_of_le Nat.and_le_right
  | 1 => simp only [codeByte, BitVec.toNat_ushiftRight, Nat.shiftRight_eq_div_pow]; have := ((b1 <<< 4) ||| (b0 >>> 4)).isLt; omega
  | 2 => simp only [codeByte, BitVec.toNat_and]; exact Nat.lt_succ_of_le Nat.and_le_right
  | 3 => simp only [codeByte, BitVec.toNat_ushiftRight, Nat.shiftRight_eq_div_pow]; have := b2.isLt; omega

/-- The reference's 32-bit extraction of field `f` from three bytes widened with zeros. -/
def refCode (f : Fin 4) (b0 b1 b2 : BitVec 8) : BitVec 32 :=
  match f with
  | 0 => b0.setWidth 32 &&& 63#32
  | 1 => (b0.setWidth 32).sshiftRight 6 ||| ((b1.setWidth 32 &&& 15#32) <<< 2)
  | 2 => (b1.setWidth 32).sshiftRight 4 ||| ((b2.setWidth 32 &&& 3#32) <<< 4)
  | 3 => (b2.setWidth 32).sshiftRight 2

/-- A byte widened with zeros is not negative: its arithmetic shift is the logical one. -/
theorem sshiftRight_widened (b : BitVec 8) (k : ℕ) : (b.setWidth 32).sshiftRight k = b.setWidth 32 >>> k :=
  BitVec.sshiftRight_eq_of_msb_false (by simp [BitVec.msb_setWidth])

/-- The reference's extraction is the code, widened. -/
theorem refCode_eq (f : Fin 4) (b0 b1 b2 : BitVec 8) : refCode f b0 b1 b2 = (codeByte f b0 b1 b2).setWidth 32 := by
  apply BitVec.eq_of_getLsbD_eq
  intro q hq
  match f with
  | 0 => simp only [refCode, codeByte]; interval_cases q <;> simp
  | 1 => simp only [refCode, codeByte, sshiftRight_widened]; interval_cases q <;> simp
  | 2 => simp only [refCode, codeByte, sshiftRight_widened]; interval_cases q <;> simp
  | 3 => simp only [refCode, codeByte, sshiftRight_widened]; interval_cases q <;> simp

/-- The reference's bf16 pattern of a code, as a 32-bit word. -/
def refBits (c : BitVec 32) : BitVec 32 :=
  (if (c &&& 31#32).slt 4#32 then
      (if c &&& 31#32 = 1#32 then 15744#32 else if c &&& 31#32 = 2#32 then 15872#32 else if c &&& 31#32 = 3#32 then 15936#32 else 0#32)
    else ((c &&& 31#32) + 496#32) <<< 5) ||| ((c.sshiftRight 5) <<< 15)

/-- The value the kernel gives a code: the re-biased byte read as e5m2. -/
def kernelValue (x : BitVec 8) : EReal := Ideal.ofBits .fp8e5m2 (rebiasByte x)

/-- The value the reference gives a code. -/
def refValue (x : BitVec 8) : EReal := Ideal.ofBits .bf16 ((refBits (x.setWidth 32)).setWidth 16)

/-- The table: over all 64 codes, the reference's value is 4096 times the kernel's. -/
theorem table (x : BitVec 8) (hx : x.toNat < 64) : kernelValue x * ((4096 : ℝ) : EReal) = refValue x := by
  have hall : ∀ n : ℕ, n < 64 → kernelValue (BitVec.ofNat 8 n) * ((4096 : ℝ) : EReal) = refValue (BitVec.ofNat 8 n) := by
    intro n hn
    unfold kernelValue refValue
    interval_cases n <;>
    · simp [rebiasByte, refBits, Ideal.ofBits, Ideal.ieee, -EReal.coe_mul, ← EReal.coe_mul]
      try norm_num
  have := hall x.toNat hx
  rwa [BitVec.ofNat_toNat, BitVec.setWidth_eq] at this

end Cert.Codes

end
-- ==== Proof.TileValue.lean ====
/- One weight tile and one output tile read at an index, at the ideal values: what `accTile` adds, and where `outTile` takes its element from. -/
module

public import proofs.«01_k».proof.Proof.Tiles
public import proofs.«01_k».proof.Proof.Codes
public import Idealize.ShloMosaic.Lib.BitcastFour
public import Idealize.ShloMosaic.Lib.Pipeline.Value
public import Idealize.ShloMosaic.Lib.ValueIdx
public import Idealize.ShloMosaic.PureOps.Ideal.Laws

@[expose] public section

set_option maxRecDepth 16384

noncomputable section

namespace Cert.KernelIdeal.Tiles

open Idealize.ShloMosaic Idealize.ShloMosaic.TcCoe Idealize.ShloMosaic.ValueIdx
open Cert.KernelIdeal Cert.KernelIdeal.Gen Cert.Codes

/-- Byte `i` of word row `a` is byte row `4a + i` of the tile. -/
theorem byteAt_words (b : Vec Ideal S1x256x128 .i8) (a : Fin 64) (l : Fin 128) (i : ℕ) (hi : i < 4) (k : Fin 256) (hk : k.val = 4 * a.val + i) :
    byteAt (words b (ix2 a l)) i = b (ix3 0 k l) := by
  apply BitVec.eq_of_getLsbD_eq
  intro q hq
  rw [byteAt_getLsbD, words, bitcast_8_32_getLsbD_ix2 _ _ a l (8 * i + q) (by omega) k (by omega)]
  have e : shapeCast S256x128 b shapeCasts_S1x256x128_S256x128 (ix2 k l) = b (ix3 0 k l) :=
    shapeCast_apply b shapeCasts_S1x256x128_S256x128 (ix2 k l) (ix3 0 k l) (by
      rewrite [Shape.rowMajor_val_three, Shape.rowMajor_val_two]
      show (0 * 256 + k.val) * 128 + l.val = k.val * 128 + l.val
      omega)
  rw [e, show (8 * i + q) % 8 = q by omega]
  simp [hq]

/-- Row `4a + i` of words read back as bytes is byte `i` of word row `a`. -/
theorem bytes_apply (w : IVec S64x128 32) (a : Fin 64) (l : Fin 128) (i : ℕ) (hi : i < 4) (k : Fin 256) (hk : k.val = 4 * a.val + i) :
    bitcast S256x128 8 w bitcasts_S64x128_w32_S256x128_w8 (ix2 k l) = byteAt (w (ix2 a l)) i := by
  apply BitVec.eq_of_getLsbD_eq
  intro q hq
  rw [byteAt_getLsbD, bitcast_getLsbD w bitcasts_S64x128_w32_S256x128_w8 _ q hq (by decide)]
  have hr : Shape.row (S256x128) (ix2 k l) = k.val := rfl
  rw [show (Shape.row (S256x128) (ix2 k l) * 8 + q) % 32 = 8 * i + q by rw [hr]; omega]
  simp only [hq, decide_true, Bool.true_and]
  congr 2
  funext c
  match c with
  | ⟨0, _⟩ => exact Fin.ext ((bitcasts_S64x128_w32_S256x128_w8.srcIdx_row _ _ _ ⟨0, Nat.zero_lt_two⟩ rfl).trans (by rw [hr]; show _ = a.val; omega))
  | ⟨1, _⟩ => exact Fin.ext (bitcasts_S64x128_w32_S256x128_w8.srcIdx_other _ _ _ ⟨1, Nat.one_lt_two⟩ (by show ¬ 1 + 2 = 2; omega))

/-- A decoded field at row `4a + i` is the kernel's value of the masked code word's byte. -/
theorem decode_apply (c : IVec S64x128 32) (a : Fin 64) (l : Fin 128) (i : ℕ) (hi : i < 4) (k : Fin 256) (hk : k.val = 4 * a.val + i) :
    decode (F := Ideal) c (ix2 k l) = kernelValue (byteAt (c (ix2 a l) &&& 1061109567#32) i) := by
  show Ideal.ofBits .fp8e5m2 (bitcast S256x128 8 (rebias c) bitcasts_S64x128_w32_S256x128_w8 (ix2 k l)) = _
  rw [bytes_apply _ a l i hi k hk]
  show Ideal.ofBits .fp8e5m2 (byteAt (((c (ix2 a l) &&& 1061109567#32) + 1616928864#32) &&& 2678038431#32) i) = _
  rw [byteAt_rebias _ i hi]
  rfl

/-- The code word of field `f` of a tile's byte planes. -/
def fieldWord (f : Fin 4) (b0 b1 b2 : Vec Ideal S1x256x128 .i8) : IVec S64x128 32 :=
  match f with
  | 0 => code0 (words b0)
  | 1 => code1 (words b0) (words b1)
  | 2 => code2 (words b1) (words b2)
  | 3 => code3 (words b2)

theorem fieldWord_apply (f : Fin 4) (b0 b1 b2 : Vec Ideal S1x256x128 .i8) (i : S64x128.Idx) :
    fieldWord f b0 b1 b2 i = codeWord f (words b0 i) (words b1 i) (words b2 i) := by
  match f with
  | 0 => rfl
  | 1 => rfl
  | 2 => rfl
  | 3 => rfl

/-- The decoded tile at row `k`, lane `l` of field `f` is the value of that code of the three packed bytes. -/
theorem decoded_apply (b0 b1 b2 : Vec Ideal S1x256x128 .i8) (k : Fin 256) (f : Fin 4) (l : Fin 128) (n : Fin 512) (hn : n.val = 128 * f.val + l.val) :
    decoded (F := Ideal) b0 b1 b2 (ix2 k n) = kernelValue (codeByte f (b0 (ix3 0 k l)) (b1 (ix3 0 k l)) (b2 (ix3 0 k l))) := by
  have h := concatenate_ofFn_apply (t := S256x512) (s₁ := S256x128) 1
    (fun g : Fin 4 => decode (F := Ideal) (fieldWord g b0 b1 b2))
    concatenates_S256x128_S256x128_S256x128_S256x128_S256x512_d1 rfl 128 rfl (ix2 k n) f (by show n.val / 128 = f.val; omega) (ix2 k l)
    (by show l.val = n.val % 128; omega)
    (fun b hb => by
      match b with
      | ⟨0, _⟩ => rfl
      | ⟨1, _⟩ => exact absurd rfl hb)
  refine Eq.trans (b := _) ?_ (h.trans ?_)
  · rfl
  have hk := k.isLt
  have ha : k.val / 4 < 64 := by omega
  have hi : k.val % 4 < 4 := by omega
  have e : k.val = 4 * (⟨k.val / 4, ha⟩ : Fin 64).val + k.val % 4 := by show k.val = 4 * (k.val / 4) + k.val % 4; omega
  rw [decode_apply _ ⟨k.val / 4, ha⟩ l _ hi k e, fieldWord_apply, byteAt_codeWord f _ _ _ _ hi,
    byteAt_words b0 _ l _ hi k e, byteAt_words b1 _ l _ hi k e, byteAt_words b2 _ l _ hi k e]

abbrev dotK := dot_S8x256_S256x512_S8x512_1_0_0_1_n_n

theorem lhsK (i : S8x512.Idx) (q : dotK.contr.Idx) : (dotK.lhsIdx i q 0).val = (i 0).val := by
  unfold DotDims.lhsIdx
  rw [dif_neg (show ¬(0 : Fin S8x256.rank) ∈ dotK.lhsBatch by decide), dif_pos (show (0 : Fin S8x256.rank) ∈ dotK.lhsNonContracting by decide)]
  rfl
theorem rhsK (i : S8x512.Idx) (q : dotK.contr.Idx) : (dotK.rhsIdx i q 1).val = (i 1).val := by
  unfold DotDims.rhsIdx
  rw [dif_neg (show ¬(1 : Fin S256x512.rank) ∈ dotK.rhsBatch by decide), dif_pos (show (1 : Fin S256x512.rank) ∈ dotK.rhsNonContracting by decide)]
  rfl

/-- What one tile leaves at row `r`, lane `l` of field `f`: what was there, plus the block's activations times its decoded weights. -/
theorem accTile_apply (x : FVec Ideal S8x256 .bf16) (b0 b1 b2 : Vec Ideal S1x256x128 .i8) (a : Vec Ideal S8x512 .f32)
    (r : Fin 8) (f : Fin 4) (l : Fin 128) (n : Fin 512) (hn : n.val = 128 * f.val + l.val) :
    accTile (F := Ideal) x b0 b1 b2 a (ix2 r n)
      = (a (ix2 r n) : EReal) + ∑ k : Fin 256, (x (ix2 r k) : EReal) * kernelValue (codeByte f (b0 (ix3 0 k l)) (b1 (ix3 0 k l)) (b2 (ix3 0 k l))) := by
  rw [accTile, shapeCast_self]
  show (a (ix2 r n) : EReal) + FloatOps.matmul dotK none x (decoded b0 b1 b2) (constant S8x512 .f32 0x00000000#32) (ix2 r n) = _
  rw [Ideal.matmul_constant_zero_apply, ← Equiv.sum_comp (ValueIdx.contrEquiv1 dotK 256 rfl rfl).symm]
  refine congrArg ((a (ix2 r n) : EReal) + ·) (Finset.sum_congr rfl fun k _ => ?_)
  have hk := ValueIdx.contrEquiv1_symm_val dotK 256 rfl rfl k
  have el : dotK.lhsIdx (ix2 r n) ((ValueIdx.contrEquiv1 dotK 256 rfl rfl).symm k) = ix2 r k := funext fun c => Fin.ext (by
    match c with
    | ⟨0, _⟩ => exact lhsK _ _
    | ⟨1, _⟩ => exact (dotK.lhsIdx_val_of_single rfl _ _).trans hk)
  have er : dotK.rhsIdx (ix2 r n) ((ValueIdx.contrEquiv1 dotK 256 rfl rfl).symm k) = ix2 k n := funext fun c => Fin.ext (by
    match c with
    | ⟨0, _⟩ => exact (dotK.rhsIdx_val_of_single rfl _ _).trans hk
    | ⟨1, _⟩ => exact rhsK _ _)
  rw [el, er, decoded_apply b0 b1 b2 k f l n hn]

/-- `lane // 4` and `lane % 4` at a lane. -/
theorem laneDiv_apply (r : Fin 8) (l : Fin 128) : laneDiv (ix2 r l) = BitVec.ofNat 32 (l.val / 4) := by
  have h : ∀ l : Fin 128, laneDiv (ix2 0 l) = BitVec.ofNat 32 (l.val / 4) := by decide
  exact (show laneDiv (ix2 r l) = laneDiv (ix2 0 l) from rfl).trans (h l)
theorem laneMod_apply (r : Fin 8) (l : Fin 128) : laneMod (ix2 r l) = BitVec.ofNat 32 (l.val % 4) := by
  have h : ∀ l : Fin 128, laneMod (ix2 0 l) = BitVec.ofNat 32 (l.val % 4) := by decide
  exact (show laneMod (ix2 r l) = laneMod (ix2 0 l) from rfl).trans (h l)

/-- The source lane of lane `l` of output quarter `q`. -/
theorem srcLane_apply (q : Fin 4) (r : Fin 8) (l : Fin 128) :
    srcLane (BitVec.ofNat 32 (32 * q.val)) (ix2 r l) = BitVec.ofNat 32 (32 * q.val + l.val / 4) := by
  rw [srcLane, shapeCast_apply _ shapeCasts_S8x128x1_S8x128 (ix2 r l) (ix3 r l 0) (by
      rewrite [Shape.rowMajor_val_three, Shape.rowMajor_val_two]
      show (r.val * 128 + l.val) * 1 + 0 = r.val * 128 + l.val
      omega),
    shapeCast_apply _ shapeCasts_S8x128_S8x128x1 (ix3 r l 0) (ix2 r l) (by
      rewrite [Shape.rowMajor_val_three, Shape.rowMajor_val_two]
      show r.val * 128 + l.val = (r.val * 128 + l.val) * 1 + 0
      omega)]
  show Scalar.select (IntOp.cmpi .slt (IntOp.addi (BitVec.ofNat 32 (32 * q.val)) (laneDiv (ix2 r l))) 0#32)
    (IntOp.addi (IntOp.addi (BitVec.ofNat 32 (32 * q.val)) (laneDiv (ix2 r l))) 128#32)
    (IntOp.addi (BitVec.ofNat 32 (32 * q.val)) (laneDiv (ix2 r l))) = _
  rw [laneDiv_apply]
  have h : ∀ (q : Fin 4) (l : Fin 128),
      Scalar.select (IntOp.cmpi .slt (IntOp.addi (BitVec.ofNat 32 (32 * q.val)) (BitVec.ofNat 32 (l.val / 4))) 0#32)
        (IntOp.addi (IntOp.addi (BitVec.ofNat 32 (32 * q.val)) (BitVec.ofNat 32 (l.val / 4))) 128#32)
        (IntOp.addi (BitVec.ofNat 32 (32 * q.val)) (BitVec.ofNat 32 (l.val / 4))) = BitVec.ofNat 32 (32 * q.val + l.val / 4) := by decide
  exact h q l

/-- A gathered field at lane `l` of output quarter `q`: the field's lane `m = 32 q + l / 4`. -/
theorem gather_apply (g : FVec Ideal S8x128 .f32) (q : Fin 4) (r : Fin 8) (l m : Fin 128) (hm : m.val = 32 * q.val + l.val / 4) :
    dynamicGather 1 g (srcLane (BitVec.ofNat 32 (32 * q.val))) (ix2 r l) = g (ix2 r m) := by
  show g _ = g _
  congr 1
  funext c
  match c with
  | ⟨0, _⟩ => rfl
  | ⟨1, _⟩ =>
    refine Fin.ext ?_
    show (srcLane (BitVec.ofNat 32 (32 * q.val)) (ix2 r l)).toNat % 128 = m.val
    rw [srcLane_apply, BitVec.toNat_ofNat]
    omega

/-- One quarter of the interleaved row at lane `l`: field `l % 4` at lane `32 q + l / 4`. -/
theorem quarter_apply (g : Fin 4 → FVec Ideal S8x128 .f32) (q : Fin 4) (r : Fin 8) (l m : Fin 128) (hm : m.val = 32 * q.val + l.val / 4)
    (f : Fin 4) (hf : f.val = l.val % 4) :
    quarter (F := Ideal) (g 0) (g 1) (g 2) (g 3) (BitVec.ofNat 32 (32 * q.val)) (ix2 r l) = g f (ix2 r m) := by
  show Scalar.select (IntOp.cmpi .eq (laneMod (ix2 r l)) 3#32) (dynamicGather 1 (g 3) (srcLane (BitVec.ofNat 32 (32 * q.val))) (ix2 r l))
    (Scalar.select (IntOp.cmpi .eq (laneMod (ix2 r l)) 2#32) (dynamicGather 1 (g 2) (srcLane (BitVec.ofNat 32 (32 * q.val))) (ix2 r l))
      (Scalar.select (IntOp.cmpi .eq (laneMod (ix2 r l)) 1#32) (dynamicGather 1 (g 1) (srcLane (BitVec.ofNat 32 (32 * q.val))) (ix2 r l))
        (dynamicGather 1 (g 0) (srcLane (BitVec.ofNat 32 (32 * q.val))) (ix2 r l)))) = _
  rw [gather_apply _ q r l m hm, gather_apply _ q r l m hm, gather_apply _ q r l m hm, gather_apply _ q r l m hm, laneMod_apply, ← hf]
  match f with
  | 0 => rfl
  | 1 => rfl
  | 2 => rfl
  | 3 => rfl

/-- Field `f` of a tile's accumulator: its 128 columns from `128 f`. -/
def fieldOf (a : Vec Ideal S8x512 .f32) (f : Fin 4) : FVec Ideal S8x128 .f32 := fun i => a (ix2 (i 0) ⟨128 * f.val + (i 1).val, by
  have : (i 1).val < 128 := (i 1).isLt
  omega⟩)

/-- The body's four column slices are the fields. -/
theorem slices_eq (a : Vec Ideal S8x512 .f32) :
    extractStridedSlice S8x128 ![0, 0] a slices_S8x512_o0_0_S8x128 = fieldOf a 0
    ∧ extractStridedSlice S8x128 ![0, 128] a slices_S8x512_o0_128_S8x128 = fieldOf a 1
    ∧ extractStridedSlice S8x128 ![0, 256] a slices_S8x512_o0_256_S8x128 = fieldOf a 2
    ∧ extractStridedSlice S8x128 ![0, 384] a slices_S8x512_o0_384_S8x128 = fieldOf a 3 := by
  refine ⟨funext fun i => ?_, funext fun i => ?_, funext fun i => ?_, funext fun i => ?_⟩
  · exact extractStridedSlice_apply ![0, 0] a slices_S8x512_o0_0_S8x128 i _ (fun c => match c with
      | ⟨0, _⟩ => by show (i 0).val = 0 + (i 0).val; omega
      | ⟨1, _⟩ => by show 128 * 0 + (i 1).val = 0 + (i 1).val; omega)
  · exact extractStridedSlice_apply ![0, 128] a slices_S8x512_o0_128_S8x128 i _ (fun c => match c with
      | ⟨0, _⟩ => by show (i 0).val = 0 + (i 0).val; omega
      | ⟨1, _⟩ => by show 128 * 1 + (i 1).val = 128 + (i 1).val; omega)
  · exact extractStridedSlice_apply ![0, 256] a slices_S8x512_o0_256_S8x128 i _ (fun c => match c with
      | ⟨0, _⟩ => by show (i 0).val = 0 + (i 0).val; omega
      | ⟨1, _⟩ => by show 128 * 2 + (i 1).val = 256 + (i 1).val; omega)
  · exact extractStridedSlice_apply ![0, 384] a slices_S8x512_o0_384_S8x128 i _ (fun c => match c with
      | ⟨0, _⟩ => by show (i 0).val = 0 + (i 0).val; omega
      | ⟨1, _⟩ => by show 128 * 3 + (i 1).val = 384 + (i 1).val; omega)

/-- The interleaved row at column `n`: field `n % 4` at lane `n / 4`. -/
theorem interleaved_apply (g : Fin 4 → FVec Ideal S8x128 .f32) (r : Fin 8) (n : Fin 512) (m : Fin 128) (hm : m.val = n.val / 4)
    (f : Fin 4) (hf : f.val = n.val % 4) :
    interleaved (F := Ideal) (g 0) (g 1) (g 2) (g 3) (ix2 r n) = g f (ix2 r m) := by
  have hn := n.isLt
  have hq : n.val / 128 < 4 := by omega
  have hl : n.val % 128 < 128 := by omega
  have h := concatenate_ofFn_apply (t := S8x512) (s₁ := S8x128) 1
    (fun q : Fin 4 => quarter (F := Ideal) (g 0) (g 1) (g 2) (g 3) (BitVec.ofNat 32 (32 * q.val)))
    concatenates_S8x128_S8x128_S8x128_S8x128_S8x512_d1 rfl 128 rfl (ix2 r n) ⟨n.val / 128, hq⟩ rfl (ix2 r ⟨n.val % 128, hl⟩) rfl
    (fun b hb => by
      match b with
      | ⟨0, _⟩ => rfl
      | ⟨1, _⟩ => exact absurd rfl hb)
  refine Eq.trans (b := _) ?_ (h.trans (quarter_apply g ⟨n.val / 128, hq⟩ r ⟨n.val % 128, hl⟩ m ?_ f ?_))
  · rfl
  · show m.val = 32 * (n.val / 128) + n.val % 128 / 4; omega
  · show f.val = n.val % 128 % 4; omega

/-- The pattern of 4096 in f32. -/
theorem ofBits_4096 : (Ideal.ofBits .f32 0x45800000#32 : EReal) = ((4096 : ℝ) : EReal) := by
  simp [Ideal.ofBits, Ideal.ieee, -EReal.coe_mul]
  norm_num

/-- The output tile at column `n`: the accumulator at lane `n / 4` of field `n % 4`, times 4096, times the column's scale. -/
theorem outTile_apply (a : Vec Ideal S8x512 .f32) (s : Vec Ideal S1x512 .f32) (r : Fin 8) (n p : Fin 512) (hp : p.val = 128 * (n.val % 4) + n.val / 4) :
    outTile (F := Ideal) a s (ix2 r n) = ((a (ix2 r p) : EReal) * ((4096 : ℝ) : EReal)) * (s (ix2 0 n) : EReal) := by
  have hn := n.isLt
  have hm : n.val / 4 < 128 := by omega
  have hf : n.val % 4 < 4 := by omega
  obtain ⟨e0, e1, e2, e3⟩ := slices_eq a
  rw [outTile, e0, e1, e2, e3, shapeCast_self]
  show (interleaved (fieldOf a 0) (fieldOf a 1) (fieldOf a 2) (fieldOf a 3) (ix2 r n) * Ideal.ofBits .f32 0x45800000#32 : EReal)
    * (broadcastTo S8x512 s broadcasts_S1x512_S8x512 (ix2 r n) : EReal) = _
  rw [interleaved_apply (fieldOf a) r n ⟨n.val / 4, hm⟩ rfl ⟨n.val % 4, hf⟩ rfl, ofBits_4096,
    broadcastTo_apply s broadcasts_S1x512_S8x512 (ix2 r n) (ix2 0 n) (fun c => match c with
      | ⟨0, _⟩ => rfl
      | ⟨1, _⟩ => rfl)]
  have e : fieldOf a ⟨n.val % 4, hf⟩ (ix2 r ⟨n.val / 4, hm⟩) = a (ix2 r p) := by
    show a _ = a _
    congr 1
    funext c
    match c with
    | ⟨0, _⟩ => rfl
    | ⟨1, _⟩ => exact Fin.ext hp.symm
  rw [e]

end Cert.KernelIdeal.Tiles

end
-- ==== Proof.Step.lean ====
/- What one grid point leaves, read at an index: the accumulator's column `512 * j + p` is tile `j`'s column `p`, which no other tile stores, so
   a point adds to every element of the accumulator the sum of its 256 products; and the last point's output column is tile `j`'s `outTile`. -/
module

public import proofs.«01_k».proof.Proof.Gen.KernelIdeal.Value
public import proofs.«01_k».proof.Proof.RunTiles
public import proofs.«01_k».proof.Proof.TileValue
public import Idealize.ShloMosaic.Lib.WritesUnit

@[expose] public section

set_option maxRecDepth 16384

noncomputable section

namespace Cert.KernelIdeal.Tiles

open Idealize.ShloMosaic Idealize.ShloMosaic.TcCoe Idealize.ShloMosaic.Tactic Idealize.ShloMosaic.ValueIdx
open Cert.KernelIdeal Cert.KernelIdeal.Gen Cert.Codes

section Pieces

variable {F : FTy → Type} [FloatOps F]
variable {κ : Kind} {sp : Space}

/-- A column past the first `n` tiles is not stored by them. -/
theorem read_pieces_later (v : View sig κ sp S8x22016 .f32) (g : v.ty.Contents (Elt F)) (x : FVec F S8x256 .bf16)
    (ld : ∀ p j : ℕ, p < 3 → j < 43 → Vec F S1x256x128 .i8)
    (rd : List (View.Piece (Elt F) S8x22016 .f32) → ∀ j : ℕ, j < 43 → Vec F S8x512 .f32)
    (init : List (View.Piece (Elt F) S8x22016 .f32)) (r : Fin 8) (c : Fin 22016) :
    ∀ (n : ℕ) (h : n ≤ 43), 512 * n ≤ c.val →
      v.read (Elt F) (v.writes (Elt F) g (pieces x ld rd init n h)) (ix2 r c) = v.read (Elt F) (v.writes (Elt F) g init) (ix2 r c)
  | 0, _, _ => rfl
  | n + 1, h, hc => by
    refine (View.read_writes_cons_unit_of_not_mem v g (inbAcc n h) _ _ (ix2 r c) rfl (1 : Fin 2) (Or.inr ?_)).trans
      (read_pieces_later v g x ld rd init r c n (Nat.le_of_succ_le h) (by omega))
    show 512 * n + 512 ≤ c.val
    omega

/-- Column `p` of tile `j` is what tile `j` stored there. -/
theorem read_pieces (v : View sig κ sp S8x22016 .f32) (g : v.ty.Contents (Elt F)) (x : FVec F S8x256 .bf16)
    (ld : ∀ p j : ℕ, p < 3 → j < 43 → Vec F S1x256x128 .i8)
    (rd : List (View.Piece (Elt F) S8x22016 .f32) → ∀ j : ℕ, j < 43 → Vec F S8x512 .f32)
    (init : List (View.Piece (Elt F) S8x22016 .f32)) (r : Fin 8) (j : ℕ) (hj : j < 43) (p : Fin 512) (c : Fin 22016)
    (hc : c.val = 512 * j + p.val) :
    ∀ (n : ℕ) (h : n ≤ 43), j < n →
      v.read (Elt F) (v.writes (Elt F) g (pieces x ld rd init n h)) (ix2 r c)
        = accTile x (ld 0 j (by decide) hj) (ld 1 j (by decide) hj) (ld 2 j (by decide) hj)
            (rd (pieces x ld rd init j (Nat.le_of_lt hj)) j hj) (ix2 r p)
  | n + 1, h, hn => by
    rcases Nat.lt_succ_iff_lt_or_eq.mp hn with hlt | rfl
    · refine (View.read_writes_cons_unit_of_not_mem v g (inbAcc n h) _ _ (ix2 r c) rfl (1 : Fin 2) (Or.inl ?_)).trans
        (read_pieces v g x ld rd init r j hj p c hc n (Nat.le_of_succ_le h) hlt)
      show c.val < 512 * n
      have := p.isLt
      omega
    · refine View.read_writes_cons_unit_of_mem v g (inbAcc j h) _ _ (ix2 r c) (ix2 r p) rfl (Fin.forall_fin_two.mpr ⟨?_, ?_⟩)
      · show r.val = 0 + r.val
        omega
      · exact hc

/-- Column `p` of output tile `j` is what tile `j` stored there. -/
theorem read_outPieces (v : View sig κ sp S8x22016 .bf16) (g : v.ty.Contents (Elt F)) (acc : ∀ j : ℕ, j < 43 → Vec F S8x512 .f32)
    (sc : ∀ j : ℕ, j < 43 → Vec F S1x512 .f32) (r : Fin 8) (j : ℕ) (hj : j < 43) (p : Fin 512) (c : Fin 22016)
    (hc : c.val = 512 * j + p.val) :
    ∀ (n : ℕ) (h : n ≤ 43), j < n →
      v.read (Elt F) (v.writes (Elt F) g (outPieces acc sc n h)) (ix2 r c) = outTile (acc j hj) (sc j hj) (ix2 r p)
  | n + 1, h, hn => by
    rcases Nat.lt_succ_iff_lt_or_eq.mp hn with hlt | rfl
    · refine (View.read_writes_cons_unit_of_not_mem v g (inbAcc n h) _ _ (ix2 r c) rfl (1 : Fin 2) (Or.inl ?_)).trans
        (read_outPieces v g acc sc r j hj p c hc n (Nat.le_of_succ_le h) hlt)
      show c.val < 512 * n
      have := p.isLt
      omega
    · refine View.read_writes_cons_unit_of_mem v g (inbAcc j h) _ _ (ix2 r c) (ix2 r p) rfl (Fin.forall_fin_two.mpr ⟨?_, ?_⟩)
      · show r.val = 0 + r.val
        omega
      · exact hc

/-- The place of column `p` of tile `j` among the accumulator's columns. -/
theorem rAcc_idx (j : ℕ) (hj : j < 43) (r : Fin 8) (p : Fin 512) (c : Fin 22016) (hc : c.val = 512 * j + p.val) :
    (rAcc j hj).toLoadRect.idx (ix2 r p) = ix2 r c := by
  funext a
  apply Fin.ext
  match a with
  | ⟨0, _⟩ => show 0 + 1 * r.val = r.val; omega
  | ⟨1, _⟩ => show 512 * j + 1 * p.val = c.val; omega

/-- What a tile reads of the accumulator before it has stored there. -/
theorem ldAcc_apply {arg5 : Memref sig .tc .vmem S8x22016 .f32} (harg5 : arg5.IsWhole) (xs0 : Vec F S8x22016 .f32) (j : ℕ) (hj : j < 43)
    (r : Fin 8) (p : Fin 512) (c : Fin 22016) (hc : c.val = 512 * j + p.val) : ldAcc harg5 xs0 j hj (ix2 r p) = xs0 (ix2 r c) := by
  show arg5.view.read (Elt F) (harg5.unread xs0) ((rAcc j hj).toLoadRect.idx (ix2 r p)) = _
  rw [rAcc_idx j hj r p c hc, Memref.IsWhole.read_unread]

/-- What a tile reads of a weight block's byte plane. -/
theorem ldW_apply {arg2 : Memref sig .tc .vmem S3x256x5504 .i8} (harg2 : arg2.IsWhole) (x1 : Vec F S3x256x5504 .i8) (p j : ℕ) (hp : p < 3)
    (hj : j < 43) (k : Fin 256) (l : Fin 128) (c : Fin 5504) (hc : c.val = 128 * j + l.val) :
    ldW harg2 x1 p j hp hj (ix3 0 k l) = x1 (ix3 ⟨p, hp⟩ k c) := by
  have e : (rW p j hp hj).toLoadRect.idx (ix3 0 k l) = ix3 ⟨p, hp⟩ k c := by
    funext a
    apply Fin.ext
    match a with
    | ⟨0, _⟩ => show p + 1 * 0 = p; omega
    | ⟨1, _⟩ => show 0 + 1 * k.val = k.val; omega
    | ⟨2, _⟩ => show 128 * j + 1 * l.val = c.val; omega
  show arg2.view.read (Elt F) (harg2.unread x1) ((rW p j hp hj).toLoadRect.idx (ix3 0 k l)) = _
  rw [e, Memref.IsWhole.read_unread]

/-- What a tile reads of the scales. -/
theorem ldS_apply {arg3 : Memref sig .tc .vmem S1x22016 .f32} (harg3 : arg3.IsWhole) (x2 : Vec F S1x22016 .f32) (j : ℕ) (hj : j < 43)
    (p : Fin 512) (c : Fin 22016) (hc : c.val = 512 * j + p.val) : ldS harg3 x2 j hj (ix2 0 p) = x2 (ix2 0 c) := by
  have e : (rS j hj).toLoadRect.idx (ix2 0 p) = ix2 0 c := by
    funext a
    apply Fin.ext
    match a with
    | ⟨0, _⟩ => show 0 + 1 * 0 = 0; omega
    | ⟨1, _⟩ => show 512 * j + 1 * p.val = c.val; omega
  show arg3.view.read (Elt F) (harg3.unread x2) ((rS j hj).toLoadRect.idx (ix2 0 p)) = _
  rw [e, Memref.IsWhole.read_unread]

/-- What a run reads of the activations is the block itself. -/
theorem ldX_eq {arg1 : Memref sig .tc .vmem S8x256 .bf16} (harg1 : arg1.IsWhole) (x0 : Vec F S8x256 .bf16) : ldX harg1 x0 = x0 := by
  unfold ldX xTile
  rw [shapeCast_self]
  funext y
  show arg1.view.read (Elt F) (harg1.unread x0) ((Rect.unit (s := S8x256) ![0, 0] S8x256.size inb_S8x256_S8x256_0_0).toLoadRect.idx y) = _
  rw [Memref.IsWhole.read_unread]
  refine congrArg x0 (funext fun a => Fin.ext ?_)
  match a with
  | ⟨0, _⟩ => show 0 + 1 * (y 0).val = (y 0).val; omega
  | ⟨1, _⟩ => show 0 + 1 * (y 1).val = (y 1).val; omega

end Pieces

/-- One grid point's products for field `f` at packed column `c`: the block's 256 activations against the block's decoded values. -/
def blockDot (x0 : Vec Ideal S8x256 .bf16) (x1 : Vec Ideal S3x256x5504 .i8) (r : Fin 8) (f : Fin 4) (c : Fin 5504) : EReal :=
  ∑ k : Fin 256, (x0 (ix2 r k) : EReal) * kernelValue (codeByte f (x1 (ix3 0 k c)) (x1 (ix3 1 k c)) (x1 (ix3 2 k c)))

/-- What the pieces of a point leave at column `512 * j + 128 * f + l`: what the tile read there plus the point's products. -/
theorem read_pieces_sum {κ : Kind} {sp : Space} (v : View sig κ sp S8x22016 .f32) (g : v.ty.Contents (Elt Ideal))
    {arg1 : Memref sig .tc .vmem S8x256 .bf16} (harg1 : arg1.IsWhole) {arg2 : Memref sig .tc .vmem S3x256x5504 .i8} (harg2 : arg2.IsWhole)
    (x0 : Vec Ideal S8x256 .bf16) (x1 : Vec Ideal S3x256x5504 .i8)
    (rd : List (View.Piece (Elt Ideal) S8x22016 .f32) → ∀ j : ℕ, j < 43 → Vec Ideal S8x512 .f32)
    (init : List (View.Piece (Elt Ideal) S8x22016 .f32)) (r : Fin 8) (f : Fin 4) (j : ℕ) (hj : j < 43) (l : Fin 128) (n : Fin 22016)
    (c : Fin 5504) (p : Fin 512) (hp : p.val = 128 * f.val + l.val) (hc : c.val = 128 * j + l.val) (hn : n.val = 512 * j + p.val) :
    v.read (Elt Ideal) (v.writes (Elt Ideal) g (pieces (ldX harg1 x0) (ldW harg2 x1) rd init 43 (le_refl _))) (ix2 r n)
      = rd (pieces (ldX harg1 x0) (ldW harg2 x1) rd init j (Nat.le_of_lt hj)) j hj (ix2 r p) + blockDot x0 x1 r f c := by
  rw [read_pieces v g _ _ rd init r j hj p n hn 43 (le_refl _) hj, accTile_apply _ _ _ _ _ r f l p hp, ldX_eq]
  refine congrArg _ (Finset.sum_congr rfl fun k _ => ?_)
  rw [ldW_apply harg2 x1 0 j _ hj k l c hc, ldW_apply harg2 x1 1 j _ hj k l c hc, ldW_apply harg2 x1 2 j _ hj k l c hc]
  rfl

/-- The zero fill, read anywhere. -/
theorem read_zeroPiece {κ : Kind} {sp : Space} (v : View sig κ sp S8x22016 .f32) (g : v.ty.Contents (Elt Ideal)) (y : S8x22016.Idx) :
    (v.read (Elt Ideal) (v.writes (Elt Ideal) g [zeroPiece]) y : EReal) = 0 := by
  refine (View.read_writes_cons_unit_of_mem v g inb_S8x22016_S8x22016_0_0 _ [] y y rfl (Fin.forall_fin_two.mpr ⟨?_, ?_⟩)).trans ?_
  · show (y 0).val = 0 + (y 0).val
    omega
  · show (y 1).val = 0 + (y 1).val
    omega
  · unfold k0_pay1976
    rw [shapeCast_self]
    exact Ideal.ofBits_zero_f32

section Steps

variable (c : Dev nD) (i : grid0.Coords)
  (arg1 : Memref sig .tc .vmem S8x256 .bf16) (harg1 : arg1.IsWhole) (arg2 : Memref sig .tc .vmem S3x256x5504 .i8) (harg2 : arg2.IsWhole)
  (arg3 : Memref sig .tc .vmem S1x22016 .f32) (harg3 : arg3.IsWhole) (arg4 : Memref sig .tc .vmem S8x22016 .bf16) (harg4 : arg4.IsWhole)
  (arg5 : Memref sig .tc .vmem S8x22016 .f32) (harg5 : arg5.IsWhole)
  (x0 : Vec Ideal S8x256 .bf16) (x1 : Vec Ideal S3x256x5504 .i8) (x2 : Vec Ideal S1x22016 .f32) (xs0 : Vec Ideal S8x22016 .f32)
  (r : Fin 8) (f : Fin 4) (j : ℕ) (hj : j < 43) (l : Fin 128) (n : Fin 22016) (q : Fin 5504)
  (hq : q.val = 128 * j + l.val) (hn : n.val = 512 * j + (128 * f.val + l.val))

include hj hq hn

/-- The first point leaves its own products. -/
theorem soutA_apply (hc0 : cond0_0 i) (hc1 : ¬cond0_1 i) :
    (sout0_A_0 c i arg1 harg1 arg2 harg2 arg3 harg3 arg4 harg4 arg5 harg5 hc0 hc1 x0 x1 x2 (ix2 r n) : EReal) = blockDot x0 x1 r f q := by
  have hp : 128 * f.val + l.val < 512 := by omega
  unfold sout0_A_0
  rw [piecesA, read_pieces_sum VS0_0 VS0_0.junk harg1 harg2 x0 x1 _ _ r f j hj l n q ⟨_, hp⟩ rfl hq hn]
  refine (congrArg (fun a : EReal => a + blockDot x0 x1 r f q) ?_).trans (zero_add _)
  show arg5.view.read (Elt Ideal) (arg5.view.writes (Elt Ideal) arg5.view.junk _) ((rAcc j hj).toLoadRect.idx (ix2 r ⟨_, hp⟩)) = (0 : EReal)
  rw [rAcc_idx j hj r ⟨_, hp⟩ n hn, read_pieces_later arg5.view _ _ _ _ _ r n j (Nat.le_of_lt hj) (by omega)]
  exact read_zeroPiece _ _ _

/-- A point between adds its products to what the point before left. -/
theorem soutB_apply (hc0 : ¬cond0_0 i) (hc1 : ¬cond0_1 i) :
    (sout0_B_0 c i arg1 harg1 arg2 harg2 arg3 harg3 arg4 harg4 arg5 harg5 hc0 hc1 x0 x1 x2 xs0 (ix2 r n) : EReal)
      = xs0 (ix2 r n) + blockDot x0 x1 r f q := by
  have hp : 128 * f.val + l.val < 512 := by omega
  unfold sout0_B_0
  rw [piecesB, read_pieces_sum VS0_0 VS0_0.junk harg1 harg2 x0 x1 _ _ r f j hj l n q ⟨_, hp⟩ rfl hq hn,
    ldAcc_apply harg5 xs0 j hj r ⟨_, hp⟩ n hn]

end Steps

/-- The last point's output at column `n`: the interleaved column of what the point before left plus the point's products, times 4096, times
    the column's scale. -/
theorem outC_apply (c : Dev nD) (i : grid0.Coords)
    (arg1 : Memref sig .tc .vmem S8x256 .bf16) (harg1 : arg1.IsWhole) (arg2 : Memref sig .tc .vmem S3x256x5504 .i8) (harg2 : arg2.IsWhole)
    (arg3 : Memref sig .tc .vmem S1x22016 .f32) (harg3 : arg3.IsWhole) (arg4 : Memref sig .tc .vmem S8x22016 .bf16) (harg4 : arg4.IsWhole)
    (arg5 : Memref sig .tc .vmem S8x22016 .f32) (harg5 : arg5.IsWhole) (hc0 : ¬cond0_0 i) (hc1 : cond0_1 i)
    (x0 : Vec Ideal S8x256 .bf16) (x1 : Vec Ideal S3x256x5504 .i8) (x2 : Vec Ideal S1x22016 .f32) (xs0 : Vec Ideal S8x22016 .f32)
    (r : Fin 8) (f : Fin 4) (j : ℕ) (hj : j < 43) (l : Fin 128) (n s : Fin 22016) (q : Fin 5504)
    (hq : q.val = 128 * j + l.val) (hs : s.val = 512 * j + (128 * f.val + l.val)) (hn : n.val = 4 * q.val + f.val) :
    (out0_C_3 c i arg1 harg1 arg2 harg2 arg3 harg3 arg4 harg4 arg5 harg5 hc0 hc1 x0 x1 x2 xs0 (ix2 r n) : EReal)
      = ((xs0 (ix2 r s) + blockDot x0 x1 r f q) * ((4096 : ℝ) : EReal)) * x2 (ix2 0 n) := by
  have hp : 128 * f.val + l.val < 512 := by omega
  have hm : 4 * l.val + f.val < 512 := by omega
  unfold out0_C_3
  rw [outPiecesC, read_outPieces VO0_3 VO0_3.junk _ _ r j hj ⟨_, hm⟩ n (by show n.val = 512 * j + (4 * l.val + f.val); omega) 43 (le_refl _) hj,
    outTile_apply _ _ r ⟨_, hm⟩ ⟨_, hp⟩ (by show 128 * f.val + l.val = 128 * ((4 * l.val + f.val) % 4) + (4 * l.val + f.val) / 4; omega),
    ldS_apply harg3 x2 j hj ⟨_, hm⟩ n (by show n.val = 512 * j + (4 * l.val + f.val); omega)]
  refine congrArg (fun a : EReal => (a * ((4096 : ℝ) : EReal)) * x2 (ix2 0 n)) ?_
  show arg5.view.read (Elt Ideal) (arg5.view.writes (Elt Ideal) arg5.view.junk _) ((rAcc j hj).toLoadRect.idx (ix2 r ⟨_, hp⟩)) = _
  rw [rAcc_idx j hj r ⟨_, hp⟩ s hs, read_pieces_sum arg5.view _ harg1 harg2 x0 x1 _ _ r f j hj l s q ⟨_, hp⟩ rfl hq hs,
    ldAcc_apply harg5 xs0 j hj r ⟨_, hp⟩ s hs]

end Cert.KernelIdeal.Tiles

end
-- ==== Proof.Blocks.lean ====
/- The blocks the pipeline hands the body, in terms of the arguments: point `t` reads activation columns and weight rows
   `256 * t … 256 * t + 255`, and every scale. -/
module

public import proofs.«01_k».proof.Proof.Gen.KernelIdeal.Value
public import proofs.«01_k».proof.Proof.TileValue

@[expose] public section

set_option maxRecDepth 16384

noncomputable section

namespace Cert.KernelIdeal.Blocks

open Idealize.ShloMosaic Idealize.ShloMosaic.TcCoe Idealize.ShloMosaic.Tactic Idealize.ShloMosaic.ValueIdx
open Cert.KernelIdeal Cert.KernelIdeal.Gen

variable {F : FTy → Type} [FloatOps F]
variable (m : (l : Loc nD τ sig) → Buf (Elt F) l) (c : Dev nD)

/-- The weights as the region reads them: planes first. -/
theorem V_weights : V m c main_v0 = transpose S3x4096x5504 [2, 0, 1] (m ((c : Thread nD τ).loc main_arg1)) transposes_S4096x5504x3_S3x4096x5504_2_0_1 := by
  rfl

/-- The activations as the region reads them: the middle axis of size one dropped. -/
theorem V_activations : V m c main_v1 = shapeCast S8x4096 (m ((c : Thread nD τ).loc main_arg0)) shapeCasts_S8x1x4096_S8x4096 := by
  rfl

/-- The scales as the region reads them: a row. -/
theorem V_scales : V m c main_v2 = shapeCast S1x22016 (m ((c : Thread nD τ).loc main_arg2)) shapeCasts_S22016_S1x22016 := by
  rfl

/-- The windows' block numbers: the activations' and the weights' at point `t` is `t` along the axis contracted over, the scales' is always the
    first. -/
theorem index_facts : ∀ t : Fin cfg0.N, win0_0.index t (0 : Fin 2) = 0 ∧ win0_0.index t (1 : Fin 2) = t.val
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0 :=
  (by decide +kernel : ∀ t : Fin grid0.N, _)

/-- Point `t`'s activations. -/
theorem activations (t : Fin cfg0.N) (r : Fin 8) (k : Fin 256) (K : Fin 4096) (hK : K.val = 256 * t.val + k.val) :
    (iblk m c 0 t : S8x256.Idx → Elt F .bf16) (ix2 r k) = (m ((c : Thread nD τ).loc main_arg0) : S8x1x4096.Idx → Elt F .bf16) (ix3 r 0 K) := by
  obtain ⟨e0, e1, -, -, -, -, -⟩ := index_facts t
  have hi : ((cfg0.win 0).blk t).view.emb (ix2 r k) = (ix2 r K : S8x4096.Idx) := by
    funext a
    apply Fin.ext
    match a with
    | ⟨0, _⟩ => show win0_0.index t (0 : Fin 2) * 8 + 1 * r.val = r.val; omega
    | ⟨1, _⟩ => show win0_0.index t (1 : Fin 2) * 256 + 1 * k.val = K.val; omega
  show (V m c main_v1 : S8x4096.Idx → Elt F .bf16) (((cfg0.win 0).blk t).view.emb (ix2 r k)) = _
  rw [hi, V_activations]
  refine shapeCast_apply _ shapeCasts_S8x1x4096_S8x4096 (ix2 r K) (ix3 r 0 K) ?_
  rewrite [Shape.rowMajor_val_three, Shape.rowMajor_val_two]
  show (r.val * 1 + 0) * 4096 + K.val = r.val * 4096 + K.val
  omega

/-- Point `t`'s weight bytes. -/
theorem weights (t : Fin cfg0.N) (p : Fin 3) (k : Fin 256) (q : Fin 5504) (K : Fin 4096) (hK : K.val = 256 * t.val + k.val) :
    (iblk m c 1 t : S3x256x5504.Idx → Elt F .i8) (ix3 p k q) = (m ((c : Thread nD τ).loc main_arg1) : S4096x5504x3.Idx → Elt F .i8) (ix3 K q p) := by
  obtain ⟨-, -, e0, e1, e2, -, -⟩ := index_facts t
  have hi : ((cfg0.win 1).blk t).view.emb (ix3 p k q) = (ix3 p K q : S3x4096x5504.Idx) := by
    funext a
    apply Fin.ext
    match a with
    | ⟨0, _⟩ => show win0_1.index t (0 : Fin 3) * 3 + 1 * p.val = p.val; omega
    | ⟨1, _⟩ => show win0_1.index t (1 : Fin 3) * 256 + 1 * k.val = K.val; omega
    | ⟨2, _⟩ => show win0_1.index t (2 : Fin 3) * 5504 + 1 * q.val = q.val; omega
  show (V m c main_v0 : S3x4096x5504.Idx → Elt F .i8) (((cfg0.win 1).blk t).view.emb (ix3 p k q)) = _
  rw [hi, V_weights]
  refine congrArg (m ((c : Thread nD τ).loc main_arg1)) (funext fun a => ?_)
  match a with
  | ⟨0, _⟩ => rfl
  | ⟨1, _⟩ => rfl
  | ⟨2, _⟩ => rfl

/-- Every point's scales. -/
theorem scales (t : Fin cfg0.N) (n : Fin 22016) :
    (iblk m c 2 t : S1x22016.Idx → Elt F .f32) (ix2 0 n) = (m ((c : Thread nD τ).loc main_arg2) : S22016.Idx → Elt F .f32) (ix1 n) := by
  obtain ⟨-, -, -, -, -, e0, e1⟩ := index_facts t
  have hi : ((cfg0.win 2).blk t).view.emb (ix2 0 n) = (ix2 0 n : S1x22016.Idx) := by
    funext a
    apply Fin.ext
    match a with
    | ⟨0, _⟩ => show win0_2.index t (0 : Fin 2) * 1 + 1 * 0 = 0; omega
    | ⟨1, _⟩ => show win0_2.index t (1 : Fin 2) * 22016 + 1 * n.val = n.val; omega
  show (V m c main_v2 : S1x22016.Idx → Elt F .f32) (((cfg0.win 2).blk t).view.emb (ix2 0 n)) = _
  rw [hi, V_scales]
  refine shapeCast_apply _ shapeCasts_S22016_S1x22016 (ix2 0 n) (ix1 n) ?_
  rewrite [Shape.rowMajor_val_one, Shape.rowMajor_val_two]
  show n.val = 0 * 22016 + n.val
  omega

end Cert.KernelIdeal.Blocks

end
-- ==== Proof.RefValue.lean ====
/- The reference's result read at an index: the sum over the 4096 rows of the activation times the decoded weight, times the column's scale. -/
module

public import proofs.«01_k».proof.Proof.Gen.ReferenceIdeal.Read
public import proofs.«01_k».proof.Proof.Codes

@[expose] public section

noncomputable section

namespace Cert.RefValue

open Idealize.ShloMosaic Idealize.ShloMosaic.TcCoe Idealize.ShloMosaic.ValueIdx
open Cert.ReferenceIdeal Cert.ReferenceIdeal.Gen Cert.ReferenceIdeal.Read Cert.Codes

/-- The reference's bit pattern of a code, in the operations the reference prints. -/
def refBitsOp (c : BitVec 32) : BitVec 32 :=
  IntOp.ori (Scalar.select (IntOp.cmpi .slt (IntOp.andi c 31#32) 4#32)
      (Scalar.select (IntOp.cmpi .eq (IntOp.andi c 31#32) 1#32) 15744#32
        (Scalar.select (IntOp.cmpi .eq (IntOp.andi c 31#32) 2#32) 15872#32
          (Scalar.select (IntOp.cmpi .eq (IntOp.andi c 31#32) 3#32) 15936#32 0#32)))
      (IntOp.shli .host (IntOp.addi (IntOp.andi c 31#32) 496#32) 5#32))
    (IntOp.shli .host (IntOp.shrsi .host c 5#32) 15#32)

/-- The printed operations compute the pattern of `Codes.refBits`. -/
theorem refBitsOp_eq (c : BitVec 32) : refBitsOp c = refBits c := by
  have hb : ∀ (b : Bool) (x y : BitVec 32), Scalar.select (BitVec.ofBool b) x y = if b = true then x else y := by
    intro b x y; cases b <;> rfl
  simp only [refBitsOp, IntOp.cmpi, hb, beq_iff_eq]
  rfl

/-- A reference code in the operations the reference prints, from its three bytes. -/
def refCodeOp (f : Fin 4) (b0 b1 b2 : BitVec 8) : BitVec 32 :=
  match f with
  | 0 => IntOp.andi (b0.setWidth 32) 63#32
  | 1 => IntOp.ori (IntOp.shrsi .host (b0.setWidth 32) 6#32) (IntOp.shli .host (IntOp.andi (b1.setWidth 32) 15#32) 2#32)
  | 2 => IntOp.ori (IntOp.shrsi .host (b1.setWidth 32) 4#32) (IntOp.shli .host (IntOp.andi (b2.setWidth 32) 3#32) 4#32)
  | 3 => IntOp.shrsi .host (b2.setWidth 32) 2#32

theorem refCodeOp_eq (f : Fin 4) (b0 b1 b2 : BitVec 8) : refCodeOp f b0 b1 b2 = refCode f b0 b1 b2 := by
  match f with
  | 0 => rfl
  | 1 => rfl
  | 2 => rfl
  | 3 => rfl

/-- Packed byte `p` of weight row `k`, packed column `c`. -/
abbrev byteOf (x1 : S4096x5504x3.Idx → BitVec 8) (p : Fin 3) (k : Fin 4096) (c : Fin 5504) : BitVec 8 := x1 (ix3 k c p)

/-- The code of field `f` of weight row `k`, packed column `c`. -/
abbrev codeOf (x1 : S4096x5504x3.Idx → BitVec 8) (f : Fin 4) (k : Fin 4096) (c : Fin 5504) : BitVec 8 :=
  codeByte f (byteOf x1 0 k c) (byteOf x1 1 k c) (byteOf x1 2 k c)

section Bytes

variable (x1 : (⟨S4096x5504x3, .i8⟩ : BufTy).Contents (Elt Ideal)) (k : Fin 4096) (c : Fin 5504)

theorem byte0 : val_main_v2 (F := Ideal) x1 (ix2 k c) = byteOf x1 0 k c := by
  rw [val_main_v2_apply, val_main_v1_apply]
  congr 1
  funext a
  match a with
  | ⟨0, _⟩ => exact Fin.ext (by show (k.val * 5504 + c.val) / 5504 = k.val; omega)
  | ⟨1, _⟩ => exact Fin.ext (by show (k.val * 5504 + c.val) / 1 % 5504 = c.val; omega)
  | ⟨2, _⟩ => rfl

theorem byte1 : val_main_v5 (F := Ideal) x1 (ix2 k c) = byteOf x1 1 k c := by
  rw [val_main_v5_apply, val_main_v4_apply]
  congr 1
  funext a
  match a with
  | ⟨0, _⟩ => exact Fin.ext (by show (k.val * 5504 + c.val) / 5504 = k.val; omega)
  | ⟨1, _⟩ => exact Fin.ext (by show (k.val * 5504 + c.val) / 1 % 5504 = c.val; omega)
  | ⟨2, _⟩ => rfl

theorem byte2 : val_main_v8 (F := Ideal) x1 (ix2 k c) = byteOf x1 2 k c := by
  rw [val_main_v8_apply, val_main_v7_apply]
  congr 1
  funext a
  match a with
  | ⟨0, _⟩ => exact Fin.ext (by show (k.val * 5504 + c.val) / 5504 = k.val; omega)
  | ⟨1, _⟩ => exact Fin.ext (by show (k.val * 5504 + c.val) / 1 % 5504 = c.val; omega)
  | ⟨2, _⟩ => rfl

/-- The bf16 weight a code's pattern denotes. -/
theorem weight_eq (f : Fin 4) (b0 b1 b2 : BitVec 8) :
    (Ideal.ofBits .bf16 ((refBitsOp (refCodeOp f b0 b1 b2)).setWidth 16) : EReal) = refValue (codeByte f b0 b1 b2) := by
  rw [refBitsOp_eq, refCodeOp_eq, refCode_eq]
  rfl

/-- The four decoded weights. -/
theorem weight0 : val_main_v52 (F := Ideal) x1 (ix2 k c) = refValue (codeOf x1 0 k c) := by
  rw [codeOf, ← byte0, ← byte1, ← byte2, ← weight_eq]
  rfl
theorem weight1 : val_main_v78 (F := Ideal) x1 (ix2 k c) = refValue (codeOf x1 1 k c) := by
  rw [codeOf, ← byte0, ← byte1, ← byte2, ← weight_eq]
  rfl
theorem weight2 : val_main_v104 (F := Ideal) x1 (ix2 k c) = refValue (codeOf x1 2 k c) := by
  rw [codeOf, ← byte0, ← byte1, ← byte2, ← weight_eq]
  rfl
theorem weight3 : val_main_v130 (F := Ideal) x1 (ix2 k c) = refValue (codeOf x1 3 k c) := by
  rw [codeOf, ← byte0, ← byte1, ← byte2, ← weight_eq]
  rfl

end Bytes

/-- The reference's product of activation row `r` with field `f` of packed column `c`. -/
def refDot (x0 : S8x1x4096.Idx → EReal) (x1 : S4096x5504x3.Idx → BitVec 8) (f : Fin 4) (r : Fin 8) (c : Fin 5504) : EReal :=
  ∑ k : Fin 4096, x0 (ix3 r 0 k) * refValue (codeOf x1 f k c)

section Dots

variable (x0 : (⟨S8x1x4096, .bf16⟩ : BufTy).Contents (Elt Ideal)) (x1 : (⟨S4096x5504x3, .i8⟩ : BufTy).Contents (Elt Ideal)) (r : Fin 8) (c : Fin 5504)

theorem act (k : Fin 4096) : val_main_v0 (F := Ideal) x0 (ix2 r k) = x0 (ix3 r 0 k) := by
  rw [val_main_v0_apply]
  congr 1
  funext a
  match a with
  | ⟨0, _⟩ => exact Fin.ext (by show (r.val * 4096 + k.val) / 4096 = r.val; omega)
  | ⟨1, _⟩ => rfl
  | ⟨2, _⟩ => exact Fin.ext (by show (r.val * 4096 + k.val) % 4096 = k.val; omega)

/-- A dot's left and right indices. -/
theorem lidx_eq (i : S8x5504.Idx) (hi : i = ix2 r c) (k : Fin 4096) : lidx_main_v53 i k = ix2 r k := by
  subst hi
  funext a
  match a with
  | ⟨0, _⟩ => rfl
  | ⟨1, _⟩ => rfl
theorem ridx_eq (i : S8x5504.Idx) (hi : i = ix2 r c) (k : Fin 4096) : ridx_main_v53 i k = ix2 k c := by
  subst hi
  funext a
  match a with
  | ⟨0, _⟩ => rfl
  | ⟨1, _⟩ => rfl

theorem dot0 : val_main_v53 (F := Ideal) x0 x1 (ix2 r c) = refDot x0 x1 0 r c := by
  rw [val_main_v53_apply]
  refine Finset.sum_congr rfl fun k _ => ?_
  have hl := act x0 r k; have hw := weight0 x1 k c
  rw [lidx_eq r c _ rfl, ridx_eq r c _ rfl, hl, hw]
theorem dot1 : val_main_v79 (F := Ideal) x0 x1 (ix2 r c) = refDot x0 x1 1 r c := by
  rw [val_main_v79_apply]
  refine Finset.sum_congr rfl fun k _ => ?_
  have hl := act x0 r k; have hw := weight1 x1 k c
  have el := lidx_eq r c _ rfl k; have er := ridx_eq r c _ rfl k
  exact congrArg₂ (· * ·) ((congrArg _ el).trans hl) ((congrArg _ er).trans hw)
theorem dot2 : val_main_v105 (F := Ideal) x0 x1 (ix2 r c) = refDot x0 x1 2 r c := by
  rw [val_main_v105_apply]
  refine Finset.sum_congr rfl fun k _ => ?_
  have hl := act x0 r k; have hw := weight2 x1 k c
  have el := lidx_eq r c _ rfl k; have er := ridx_eq r c _ rfl k
  exact congrArg₂ (· * ·) ((congrArg _ el).trans hl) ((congrArg _ er).trans hw)
theorem dot3 : val_main_v131 (F := Ideal) x0 x1 (ix2 r c) = refDot x0 x1 3 r c := by
  rw [val_main_v131_apply]
  refine Finset.sum_congr rfl fun k _ => ?_
  have hl := act x0 r k; have hw := weight3 x1 k c
  have el := lidx_eq r c _ rfl k; have er := ridx_eq r c _ rfl k
  exact congrArg₂ (· * ·) ((congrArg _ el).trans hl) ((congrArg _ er).trans hw)

/-- The four fields stacked on the last axis. -/
theorem stacked (f : Fin 4) : val_main_v136 (F := Ideal) x0 x1 (ix3 r c f) = refDot x0 x1 f r c := by
  have h := concatenate_ofFn_unit_apply (t := S8x5504x4) (s₁ := S8x5504x1) 2
    (fun n : Fin 4 => match n with
      | 0 => val_main_v132 (F := Ideal) x0 x1 | 1 => val_main_v133 (F := Ideal) x0 x1
      | 2 => val_main_v134 (F := Ideal) x0 x1 | 3 => val_main_v135 (F := Ideal) x0 x1)
    concatenates_S8x5504x1_S8x5504x1_S8x5504x1_S8x5504x1_S8x5504x4_d2 rfl rfl (ix3 r c f) f rfl (ix3 r c 0)
    (fun b hb => by
      match b with
      | ⟨0, _⟩ => rfl
      | ⟨1, _⟩ => rfl
      | ⟨2, _⟩ => exact absurd rfl hb)
  refine Eq.trans (b := _) ?_ (h.trans ?_)
  · rfl
  have ei : ∀ i : S8x5504.Idx, i 0 = r → i 1 = c → i = ix2 r c := by
    intro i h0 h1
    funext a
    match a with
    | ⟨0, _⟩ => exact h0
    | ⟨1, _⟩ => exact h1
  match f with
  | 0 => exact (val_main_v132_apply x0 x1 _).trans ((congrArg _ (ei _ rfl rfl)).trans (dot0 x0 x1 r c))
  | 1 => exact (val_main_v133_apply x0 x1 _).trans ((congrArg _ (ei _ rfl rfl)).trans (dot1 x0 x1 r c))
  | 2 => exact (val_main_v134_apply x0 x1 _).trans ((congrArg _ (ei _ rfl rfl)).trans (dot2 x0 x1 r c))
  | 3 => exact (val_main_v135_apply x0 x1 _).trans ((congrArg _ (ei _ rfl rfl)).trans (dot3 x0 x1 r c))

end Dots

/-- The reference's result at row `r`, output column `4 c + f`. -/
theorem result (x0 : (⟨S8x1x4096, .bf16⟩ : BufTy).Contents (Elt Ideal)) (x1 : (⟨S4096x5504x3, .i8⟩ : BufTy).Contents (Elt Ideal))
    (x2 : (⟨S22016, .f32⟩ : BufTy).Contents (Elt Ideal)) (r : Fin 8) (n : Fin 22016) (c : Fin 5504) (f : Fin 4) (hn : n.val = 4 * c.val + f.val) :
    val_main_v142 (F := Ideal) x0 x1 x2 (ix2 r n) = refDot x0 x1 f r c * x2 (ix1 n) := by
  rw [val_main_v142_apply, val_main_v141_apply, val_main_v140_apply, val_main_v139_apply, val_main_v138_apply, val_main_v137_apply]
  refine congrArg₂ (· * ·) ((congrArg _ ?_).trans (stacked x0 x1 r c f)) (congrArg _ ?_)
  · funext a
    match a with
    | ⟨0, _⟩ => exact Fin.ext (by
        show (((r.val * 22016 + n.val) / 22016 * 1 + 0) * 22016 + (r.val * 22016 + n.val) % 22016) / 22016 = r.val; omega)
    | ⟨1, _⟩ => exact Fin.ext (by
        show (((r.val * 22016 + n.val) / 22016 * 1 + 0) * 22016 + (r.val * 22016 + n.val) % 22016) / 4 % 5504 = c.val; omega)
    | ⟨2, _⟩ => exact Fin.ext (by
        show (((r.val * 22016 + n.val) / 22016 * 1 + 0) * 22016 + (r.val * 22016 + n.val) % 22016) % 4 = f.val; omega)
  · funext a
    match a with
    | ⟨0, _⟩ => exact Fin.ext (by show (r.val * 22016 + n.val) % 22016 = n.val; omega)

end Cert.RefValue

end
-- ==== Proof.Result.lean ====
/- The kernel's result at an index: the accumulator after point `t` holds, field by field, the sum of the products of the first
   `256 * (t + 1)` inputs, and the last point's output is that sum times 4096 times the scale, which is the reference's product. -/
module

public import proofs.«01_k».proof.Proof.Step
public import proofs.«01_k».proof.Proof.Blocks
public import proofs.«01_k».proof.Proof.RefValue

@[expose] public section

set_option maxRecDepth 16384

noncomputable section

namespace Cert.KernelIdeal.Result

open Idealize.ShloMosaic Idealize.ShloMosaic.TcCoe Idealize.ShloMosaic.Tactic Idealize.ShloMosaic.ValueIdx
open Cert.KernelIdeal Cert.KernelIdeal.Gen Cert.KernelIdeal.Value Cert.KernelIdeal.Tiles Cert.Codes Cert.RefValue

variable (m : (ℓ : Loc nD τ sig) → Buf (Elt Ideal) ℓ) (c : Dev nD)

/-- The arguments on device `c`. -/
abbrev act : S8x1x4096.Idx → EReal := m ((c : Thread nD τ).loc main_arg0)
@[inherit_doc act] abbrev wgt : S4096x5504x3.Idx → BitVec 8 := m ((c : Thread nD τ).loc main_arg1)
@[inherit_doc act] abbrev scl : S22016.Idx → EReal := m ((c : Thread nD τ).loc main_arg2)

/-- Input `k`'s product for row `r`, field `f`, packed column `q`; nothing past the last input. -/
def term (r : Fin 8) (f : Fin 4) (q : Fin 5504) (k : ℕ) : EReal :=
  if h : k < 4096 then act m c (ix3 r 0 ⟨k, h⟩) * kernelValue (codeOf (wgt m c) f ⟨k, h⟩ q) else 0

/-- Point `t`'s products are those of its 256 inputs. -/
theorem blockDot_eq (t : Fin cfg0.N) (r : Fin 8) (f : Fin 4) (q : Fin 5504) :
    blockDot (iblk m c 0 t) (iblk m c 1 t) r f q = ∑ k ∈ Finset.range 256, term m c r f q (256 * t.val + k) := by
  have ht : t.val < 16 := lt_of_lt_of_eq t.isLt N_0
  unfold blockDot
  rw [Finset.sum_range]
  refine Finset.sum_congr rfl fun k _ => ?_
  have hK : 256 * t.val + k.val < 4096 := by have := k.isLt; omega
  rw [term, dif_pos hK, Blocks.activations m c t r k ⟨_, hK⟩ rfl, Blocks.weights m c t 0 k q ⟨_, hK⟩ rfl,
    Blocks.weights m c t 1 k q ⟨_, hK⟩ rfl, Blocks.weights m c t 2 k q ⟨_, hK⟩ rfl]

section Column

variable (r : Fin 8) (f : Fin 4) (j : ℕ) (hj : j < 43) (l : Fin 128) (s : Fin 22016) (q : Fin 5504)
  (hq : q.val = 128 * j + l.val) (hs : s.val = 512 * j + (128 * f.val + l.val))

include hj hq hs

/-- The accumulator after point `t`, short of the last. -/
theorem accumulator : ∀ (t : ℕ) (ht : t < cfg0.N), t < 15 →
    ((outsAt0 m c t ht).2 (ix2 r s) : EReal) = ∑ k ∈ Finset.range (256 * (t + 1)), term m c r f q k
  | 0, ht, _ => by
    rw [outsAt0_A m c ⟨0, ht⟩ (Nat.zero_mod _) (by show ¬0 % 16 = 15; decide)]
    dsimp only
    refine (soutA_apply (j := j) (hj := hj) (l := l) (q := q) (f := f) (hq := hq) (hn := hs) ..).trans ?_
    rw [blockDot_eq]
    refine Finset.sum_congr rfl fun k _ => ?_
    show term m c r f q (256 * 0 + k) = _
    rw [Nat.mul_zero, Nat.zero_add]
  | t + 1, ht, h15 => by
    rw [outsAt0_succ, stAt0_B m c ⟨t + 1, ht⟩ _ (by show ¬(t + 1) % 16 = 0; omega) (by show ¬(t + 1) % 16 = 15; omega)]
    dsimp only
    refine (soutB_apply (j := j) (hj := hj) (l := l) (q := q) (f := f) (hq := hq) (hn := hs) ..).trans ?_
    rw [accumulator t (Nat.lt_of_succ_lt ht) (by omega), blockDot_eq, show 256 * (t + 1 + 1) = 256 * (t + 1) + 256 by omega, Finset.sum_range_add]

/-- The kernel's output at an index. -/
theorem output (n : Fin 22016) (hn : n.val = 4 * q.val + f.val) :
    (G3 m c (ix2 r n) : EReal) = ((∑ k : Fin 4096, act m c (ix3 r 0 k) * kernelValue (codeOf (wgt m c) f k q)) * ((4096 : ℝ) : EReal)) * scl m c (ix1 n) := by
  have h15 : 15 < cfg0.N := lt_of_lt_of_eq (by decide) N_0.symm
  have h14 : 14 < cfg0.N := lt_of_lt_of_eq (by decide) N_0.symm
  rw [G3_last, ← outsAt0_sweep m c 15 h15, outsAt0_succ m c 14 h15, stAt0_C m c ⟨15, h15⟩ _ (by show ¬15 % 16 = 0; decide) (by show 15 % 16 = 15; decide)]
  dsimp only
  refine (outC_apply (j := j) (hj := hj) (l := l) (s := s) (q := q) (f := f) (hq := hq) (hs := hs) (hn := hn) ..).trans ?_
  rw [accumulator m c r f j hj l s q hq hs 14 h14 (by decide), blockDot_eq, Blocks.scales,
    ← Finset.sum_range_add (term m c r f q) (256 * (14 + 1)) 256]
  refine congrArg (fun a : EReal => (a * ((4096 : ℝ) : EReal)) * scl m c (ix1 n)) ?_
  rw [Finset.sum_range]
  exact Finset.sum_congr rfl fun k _ => dif_pos k.isLt

end Column

/-- A power of two moves across a sum of extended reals. -/
theorem sum_mul_4096 {ι : Type} (S : Finset ι) (g : ι → EReal) : (∑ k ∈ S, g k) * ((4096 : ℝ) : EReal) = ∑ k ∈ S, g k * ((4096 : ℝ) : EReal) := by
  induction S using Finset.cons_induction with
  | empty => rw [Finset.sum_empty, Finset.sum_empty, zero_mul]
  | cons a S ha ih =>
    rw [Finset.sum_cons, Finset.sum_cons, ← ih]
    exact EReal.right_distrib_of_nonneg_of_ne_top (EReal.coe_nonneg.mpr (by norm_num)) (EReal.coe_ne_top _) _ _

/-- The kernel's result is the reference's. -/
theorem result : G3 m c = Cert.ReferenceIdeal.Read.val_main_v142 (F := Ideal) (act m c) (wgt m c) (scl m c) := by
  funext i
  have hr := (i 0).isLt
  obtain ⟨r, n, rfl⟩ : ∃ (r : Fin 8) (n : Fin 22016), i = ix2 r n := ⟨i 0, i 1, by
    funext a
    match a with
    | ⟨0, _⟩ => rfl
    | ⟨1, _⟩ => rfl⟩
  have hn := n.isLt
  have hq : n.val / 4 < 5504 := by omega
  have hf : n.val % 4 < 4 := Nat.mod_lt _ (by decide)
  have hl : n.val / 4 % 128 < 128 := Nat.mod_lt _ (by decide)
  have hj : n.val / 4 / 128 < 43 := by omega
  have hs : 512 * (n.val / 4 / 128) + (128 * (n.val % 4) + n.val / 4 % 128) < 22016 := by omega
  have hn' : n.val = 4 * (n.val / 4) + n.val % 4 := by omega
  refine (output m c r ⟨n.val % 4, hf⟩ (n.val / 4 / 128) hj ⟨_, hl⟩ ⟨_, hs⟩ ⟨n.val / 4, hq⟩
    (by show n.val / 4 = 128 * (n.val / 4 / 128) + n.val / 4 % 128; omega) rfl n hn').trans ?_
  refine Eq.trans ?_ (RefValue.result (act m c) (wgt m c) (scl m c) r n ⟨n.val / 4, hq⟩ ⟨n.val % 4, hf⟩ hn').symm
  refine congrArg (fun a : EReal => a * scl m c (ix1 n)) ?_
  rw [sum_mul_4096]
  refine Finset.sum_congr rfl fun k _ => ?_
  rw [mul_assoc, table _ (codeByte_lt _ _ _ _)]

end Cert.KernelIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Result
public import Idealize.ShloMosaic.Adequacy
public import Idealize.ShloMosaic.Init

@[expose] public section

noncomputable section

namespace Cert.Proof

open Idealize.ShloMosaic Idealize.SL.Sem Cert.Kernel

/-- The kernel's frame at bit-level floats. -/
theorem frame_kernel : Cert.quiescent_Kernel (hKernel := Cert.Kernel.Gen.facts) := fun m ρ _ => Cert.Kernel.Gen.frame m ρ

/-- The idealized kernel's frame. -/
theorem frame_kernelIdeal : Cert.quiescent_KernelIdeal (hKernelIdeal := Cert.KernelIdeal.Gen.facts) := fun m ρ _ => Cert.KernelIdeal.Gen.frame m ρ

/-- The idealized reference's frame: its generated run, and it declares no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealized kernel and the idealized reference end with the same result: the kernel's run leaves `G3`, which is the reference's composed
    term of the same arguments (`Result.result`). -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Value.G3 m c, Cert.KernelIdeal.Value.run m g,
    (θ_run Cert.ReferenceIdeal.defs _ _).mono (fun _ h c => by
      refine ⟨((h c).1.trans (Cert.ReferenceIdeal.Read.val_main_v142_eq _)).trans ?_, (h c).2⟩
      rw [Idealize.ShloMosaic.StableHlo.launchContents_devRef, Idealize.ShloMosaic.StableHlo.launchContents_devRef,
        Idealize.ShloMosaic.StableHlo.launchContents_devRef]
      obtain ⟨h0, h1, h2⟩ := hargs c
      refine Eq.trans ?_ (Cert.KernelIdeal.Result.result m c).symm
      exact congr (congrArg₂ (Cert.ReferenceIdeal.Read.val_main_v142 (F := Ideal)) h0 h1) h2)
      (Cert.ReferenceIdeal.Value.run (F := Ideal) m' g')⟩

/-- The certificate's claim. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
